-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_mla [hPre_finite_mla : Cert.Pre_finite_mla.Facts] (m : (ℓ : Loc Cert.MlaIdeal.nD Cert.MlaIdeal.τ Cert.MlaIdeal.sig) → Buf (Elt Ideal) ℓ) : Prop :=
  ∀ c : Dev Cert.MlaIdeal.nD,
    (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_finite_mla.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_mla [hPre_finite_mla : Cert.Pre_finite_mla.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).1 = (fun _ => 1#1)
    ∧ (Cert.Pre_finite_mla.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnB (m : (ℓ : Loc Cert.FfnB.nD Cert.FfnB.τ Cert.FfnB.sig) → Buf (Elt Bits) ℓ) : Prop :=
  True

def Pre_FfnBIdeal (m : (ℓ : Loc Cert.FfnBIdeal.nD Cert.FfnBIdeal.τ Cert.FfnBIdeal.sig) → Buf (Elt Ideal) ℓ) : Prop :=
  True

def Pre_FfnBRefIdeal (m : (ℓ : Loc Cert.FfnBRefIdeal.nD Cert.FfnBRefIdeal.τ Cert.FfnBRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Sb (m : (ℓ : Loc Cert.Sb.nD Cert.Sb.τ Cert.Sb.sig) → Buf (Elt Bits) ℓ) : Prop :=
  True

def Pre_SbIdeal (m : (ℓ : Loc Cert.SbIdeal.nD Cert.SbIdeal.τ Cert.SbIdeal.sig) → Buf (Elt Ideal) ℓ) : Prop :=
  True

def Pre_SbIdeal_finite_sb [hPre_finite_sb : Cert.Pre_finite_sb.Facts] (m : (ℓ : Loc Cert.SbIdeal.nD Cert.SbIdeal.τ Cert.SbIdeal.sig) → Buf (Elt Ideal) ℓ) : Prop :=
  ∀ c : Dev Cert.SbIdeal.nD,
    (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))).1 = (fun _ => 1#1)
    ∧ (Cert.Pre_finite_sb.fn (F := Ideal) (m ((c.tc : Thread Cert.SbIdeal.nD Cert.SbIdeal.τ).loc Cert.SbIdeal.main_arg0)) (m ((c.tc : Thread Cert.SbIdeal.nD Cert.SbIdeal.τ).loc Cert.SbIdeal.main_arg1)) (m ((c.tc : Thread Cert.SbIdeal.nD Cert.SbIdeal.τ).loc Cert.SbIdeal.main_arg2))).2 = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_finite_sb [hPre_finite_sb : Cert.Pre_finite_sb.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))).1 = (fun _ => 1#1)
    ∧ (Cert.Pre_finite_sb.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2))).2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_mla [hMlaIdeal : Cert.MlaIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_mla m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_mla [hMlaRefIdeal : Cert.MlaRefIdeal.Facts] [hPre_finite_mla : Cert.Pre_finite_mla.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_mla m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnB [hFfnB : Cert.FfnB.Facts] : Prop :=
  ∀ (m : (ℓ : Loc Cert.FfnB.nD Cert.FfnB.τ Cert.FfnB.sig) → Buf (Elt Bits) ℓ) (g : Dev Cert.FfnB.nD → PrngReg), Pre_FfnB m →
    θ_run (Cert.FfnB.defs (F := Bits)) (onTc (τ := Cert.FfnB.τ) (Cert.FfnB.main (F := Bits))) ⟨m, fun _ => 0, g⟩ (fun r => (∀ c : Dev Cert.FfnB.nD,
      r.2.mem ((c.tc : Thread Cert.FfnB.nD Cert.FfnB.τ).loc Cert.FfnB.main_arg0) = m ((c.tc : Thread Cert.FfnB.nD Cert.FfnB.τ).loc Cert.FfnB.main_arg0)
      ∧ r.2.mem ((c.tc : Thread Cert.FfnB.nD Cert.FfnB.τ).loc Cert.FfnB.main_arg1) = m ((c.tc : Thread Cert.FfnB.nD Cert.FfnB.τ).loc Cert.FfnB.main_arg1)
      ∧ r.2.mem ((c.tc : Thread Cert.FfnB.nD Cert.FfnB.τ).loc Cert.FfnB.main_arg2) = m ((c.tc : Thread Cert.FfnB.nD Cert.FfnB.τ).loc Cert.FfnB.main_arg2)
      ∧ r.2.mem ((c.tc : Thread Cert.FfnB.nD Cert.FfnB.τ).loc Cert.FfnB.main_arg3) = m ((c.tc : Thread Cert.FfnB.nD Cert.FfnB.τ).loc Cert.FfnB.main_arg3)
      ∧ r.2.mem ((c.tc : Thread Cert.FfnB.nD Cert.FfnB.τ).loc Cert.FfnB.main_arg4) = m ((c.tc : Thread Cert.FfnB.nD Cert.FfnB.τ).loc Cert.FfnB.main_arg4)
      ∧ r.2.mem ((c.tc : Thread Cert.FfnB.nD Cert.FfnB.τ).loc Cert.FfnB.main_arg5) = m ((c.tc : Thread Cert.FfnB.nD Cert.FfnB.τ).loc Cert.FfnB.main_arg5))
      ∧ r.2.sem = fun _ => 0)

def quiescent_FfnBIdeal [hFfnBIdeal : Cert.FfnBIdeal.Facts] : Prop :=
  ∀ (m : (ℓ : Loc Cert.FfnBIdeal.nD Cert.FfnBIdeal.τ Cert.FfnBIdeal.sig) → Buf (Elt Ideal) ℓ) (g : Dev Cert.FfnBIdeal.nD → PrngReg), Pre_FfnBIdeal m →
    θ_run (Cert.FfnBIdeal.defs (F := Ideal)) (onTc (τ := Cert.FfnBIdeal.τ) (Cert.FfnBIdeal.main (F := Ideal))) ⟨m, fun _ => 0, g⟩ (fun r => (∀ c : Dev Cert.FfnBIdeal.nD,
      r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
      ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
      ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
      ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
      ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
      ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ r.2.sem = fun _ => 0)

def quiescent_FfnBRefIdeal [hFfnBRefIdeal : Cert.FfnBRefIdeal.Facts] : Prop :=
  ∀ (m : (ℓ : Loc Cert.FfnBRefIdeal.nD Cert.FfnBRefIdeal.τ Cert.FfnBRefIdeal.sig) → Buf (Elt Ideal) ℓ) (g : Dev Cert.FfnBRefIdeal.nD → PrngReg), Pre_FfnBRefIdeal m →
    θ_run (Cert.FfnBRefIdeal.defs (F := Ideal)) (onTc (τ := Cert.FfnBRefIdeal.τ) (Cert.FfnBRefIdeal.main (F := Ideal))) ⟨m, fun _ => 0, g⟩ (fun r => (∀ c : Dev Cert.FfnBRefIdeal.nD,
      r.2.mem ((c.tc : Thread Cert.FfnBRefIdeal.nD Cert.FfnBRefIdeal.τ).loc Cert.FfnBRefIdeal.main_arg0) = m ((c.tc : Thread Cert.FfnBRefIdeal.nD Cert.FfnBRefIdeal.τ).loc Cert.FfnBRefIdeal.main_arg0)
      ∧ r.2.mem ((c.tc : Thread Cert.FfnBRefIdeal.nD Cert.FfnBRefIdeal.τ).loc Cert.FfnBRefIdeal.main_arg1) = m ((c.tc : Thread Cert.FfnBRefIdeal.nD Cert.FfnBRefIdeal.τ).loc Cert.FfnBRefIdeal.main_arg1)
      ∧ r.2.mem ((c.tc : Thread Cert.FfnBRefIdeal.nD Cert.FfnBRefIdeal.τ).loc Cert.FfnBRefIdeal.main_arg2) = m ((c.tc : Thread Cert.FfnBRefIdeal.nD Cert.FfnBRefIdeal.τ).loc Cert.FfnBRefIdeal.main_arg2)
      ∧ r.2.mem ((c.tc : Thread Cert.FfnBRefIdeal.nD Cert.FfnBRefIdeal.τ).loc Cert.FfnBRefIdeal.main_arg3) = m ((c.tc : Thread Cert.FfnBRefIdeal.nD Cert.FfnBRefIdeal.τ).loc Cert.FfnBRefIdeal.main_arg3)
      ∧ r.2.mem ((c.tc : Thread Cert.FfnBRefIdeal.nD Cert.FfnBRefIdeal.τ).loc Cert.FfnBRefIdeal.main_arg4) = m ((c.tc : Thread Cert.FfnBRefIdeal.nD Cert.FfnBRefIdeal.τ).loc Cert.FfnBRefIdeal.main_arg4)
      ∧ r.2.mem ((c.tc : Thread Cert.FfnBRefIdeal.nD Cert.FfnBRefIdeal.τ).loc Cert.FfnBRefIdeal.main_arg5) = m ((c.tc : Thread Cert.FfnBRefIdeal.nD Cert.FfnBRefIdeal.τ).loc Cert.FfnBRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Sb [hSb : Cert.Sb.Facts] : Prop :=
  ∀ (m : (ℓ : Loc Cert.Sb.nD Cert.Sb.τ Cert.Sb.sig) → Buf (Elt Bits) ℓ) (g : Dev Cert.Sb.nD → PrngReg), Pre_Sb m →
    θ_run (Cert.Sb.defs (F := Bits)) (onTc (τ := Cert.Sb.τ) (Cert.Sb.main (F := Bits))) ⟨m, fun _ => 0, g⟩ (fun r => (∀ c : Dev Cert.Sb.nD,
      r.2.mem ((c.tc : Thread Cert.Sb.nD Cert.Sb.τ).loc Cert.Sb.main_arg0) = m ((c.tc : Thread Cert.Sb.nD Cert.Sb.τ).loc Cert.Sb.main_arg0)
      ∧ r.2.mem ((c.tc : Thread Cert.Sb.nD Cert.Sb.τ).loc Cert.Sb.main_arg1) = m ((c.tc : Thread Cert.Sb.nD Cert.Sb.τ).loc Cert.Sb.main_arg1)
      ∧ r.2.mem ((c.tc : Thread Cert.Sb.nD Cert.Sb.τ).loc Cert.Sb.main_arg2) = m ((c.tc : Thread Cert.Sb.nD Cert.Sb.τ).loc Cert.Sb.main_arg2))
      ∧ r.2.sem = fun _ => 0)

def quiescent_SbIdeal [hSbIdeal : Cert.SbIdeal.Facts] : Prop :=
  ∀ (m : (ℓ : Loc Cert.SbIdeal.nD Cert.SbIdeal.τ Cert.SbIdeal.sig) → Buf (Elt Ideal) ℓ) (g : Dev Cert.SbIdeal.nD → PrngReg), Pre_SbIdeal m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbIdeal_pre_finite_sb [hSbIdeal : Cert.SbIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg), Pre_SbIdeal_finite_sb m →
    θ_run (Cert.SbIdeal.defs (F := Ideal)) (onTc (τ := Cert.SbIdeal.τ) (Cert.SbIdeal.main (F := Ideal))) ⟨m, fun _ => 0, g⟩ (fun r => (∀ c : Dev Cert.SbIdeal.nD,
      r.2.mem ((c.tc : Thread Cert.SbIdeal.nD Cert.SbIdeal.τ).loc Cert.SbIdeal.main_arg0) = m ((c.tc : Thread Cert.SbIdeal.nD Cert.SbIdeal.τ).loc Cert.SbIdeal.main_arg0)
      ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
      ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_SbRefIdeal_pre_finite_sb [hSbRefIdeal : Cert.SbRefIdeal.Facts] [hPre_finite_sb : Cert.Pre_finite_sb.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_finite_sb m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def preserves_Mla_MlaIdeal : Prop :=
  True

def algebraic_MlaIdeal_MlaRefIdeal_pre_finite_mla [hMlaIdeal : Cert.MlaIdeal.Facts] [hMlaRefIdeal : Cert.MlaRefIdeal.Facts] [hPre_finite_mla : Cert.Pre_finite_mla.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_mla m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v38) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v43) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnB_FfnBIdeal : Prop :=
  True

def algebraic_FfnBIdeal_FfnBRefIdeal [hFfnBIdeal : Cert.FfnBIdeal.Facts] [hFfnBRefIdeal : Cert.FfnBRefIdeal.Facts] : Prop :=
  ∀ (m : (ℓ : Loc Cert.FfnBIdeal.nD Cert.FfnBIdeal.τ Cert.FfnBIdeal.sig) → Buf (Elt Ideal) ℓ) (g : Dev Cert.FfnBIdeal.nD → PrngReg)
    (m' : (ℓ : Loc Cert.FfnBRefIdeal.nD Cert.FfnBRefIdeal.τ Cert.FfnBRefIdeal.sig) → Buf (Elt Ideal) ℓ) (g' : Dev Cert.FfnBRefIdeal.nD → PrngReg), Pre_FfnBIdeal m →
    (∀ c : Dev Cert.FfnBIdeal.nD,
      m' ((c.tc : Thread Cert.FfnBRefIdeal.nD Cert.FfnBRefIdeal.τ).loc Cert.FfnBRefIdeal.main_arg0) = m ((c.tc : Thread Cert.FfnBIdeal.nD Cert.FfnBIdeal.τ).loc Cert.FfnBIdeal.main_arg0)
      ∧ m' ((c.tc : Thread Cert.FfnBRefIdeal.nD Cert.FfnBRefIdeal.τ).loc Cert.FfnBRefIdeal.main_arg1) = m ((c.tc : Thread Cert.FfnBIdeal.nD Cert.FfnBIdeal.τ).loc Cert.FfnBIdeal.main_arg1)
      ∧ m' ((c.tc : Thread Cert.FfnBRefIdeal.nD Cert.FfnBRefIdeal.τ).loc Cert.FfnBRefIdeal.main_arg2) = m ((c.tc : Thread Cert.FfnBIdeal.nD Cert.FfnBIdeal.τ).loc Cert.FfnBIdeal.main_arg2)
      ∧ m' ((c.tc : Thread Cert.FfnBRefIdeal.nD Cert.FfnBRefIdeal.τ).loc Cert.FfnBRefIdeal.main_arg3) = m ((c.tc : Thread Cert.FfnBIdeal.nD Cert.FfnBIdeal.τ).loc Cert.FfnBIdeal.main_arg3)
      ∧ m' ((c.tc : Thread Cert.FfnBRefIdeal.nD Cert.FfnBRefIdeal.τ).loc Cert.FfnBRefIdeal.main_arg4) = m ((c.tc : Thread Cert.FfnBIdeal.nD Cert.FfnBIdeal.τ).loc Cert.FfnBIdeal.main_arg4)
      ∧ m' ((c.tc : Thread Cert.FfnBRefIdeal.nD Cert.FfnBRefIdeal.τ).loc Cert.FfnBRefIdeal.main_arg5) = m ((c.tc : Thread Cert.FfnBIdeal.nD Cert.FfnBIdeal.τ).loc Cert.FfnBIdeal.main_arg5)) →
    ∃ (v0 : (c : Dev Cert.FfnBIdeal.nD) → Buf (Elt Ideal) ((c.tc : Thread Cert.FfnBIdeal.nD Cert.FfnBIdeal.τ).loc Cert.FfnBIdeal.main_v6)),
      θ_run (Cert.FfnBIdeal.defs (F := Ideal)) (onTc (τ := Cert.FfnBIdeal.τ) (Cert.FfnBIdeal.main (F := Ideal))) ⟨m, fun _ => 0, g⟩ (fun r => ∀ c : Dev Cert.FfnBIdeal.nD,
          r.2.mem ((c.tc : Thread Cert.FfnBIdeal.nD Cert.FfnBIdeal.τ).loc Cert.FfnBIdeal.main_v6) = v0 c
          ∧ r.2.mem ((c.tc : Thread Cert.FfnBIdeal.nD Cert.FfnBIdeal.τ).loc Cert.FfnBIdeal.main_arg0) = m ((c.tc : Thread Cert.FfnBIdeal.nD Cert.FfnBIdeal.τ).loc Cert.FfnBIdeal.main_arg0)
          ∧ r.2.mem ((c.tc : Thread Cert.FfnBIdeal.nD Cert.FfnBIdeal.τ).loc Cert.FfnBIdeal.main_arg1) = m ((c.tc : Thread Cert.FfnBIdeal.nD Cert.FfnBIdeal.τ).loc Cert.FfnBIdeal.main_arg1)
          ∧ r.2.mem ((c.tc : Thread Cert.FfnBIdeal.nD Cert.FfnBIdeal.τ).loc Cert.FfnBIdeal.main_arg2) = m ((c.tc : Thread Cert.FfnBIdeal.nD Cert.FfnBIdeal.τ).loc Cert.FfnBIdeal.main_arg2)
          ∧ r.2.mem ((c.tc : Thread Cert.FfnBIdeal.nD Cert.FfnBIdeal.τ).loc Cert.FfnBIdeal.main_arg3) = m ((c.tc : Thread Cert.FfnBIdeal.nD Cert.FfnBIdeal.τ).loc Cert.FfnBIdeal.main_arg3)
          ∧ r.2.mem ((c.tc : Thread Cert.FfnBIdeal.nD Cert.FfnBIdeal.τ).loc Cert.FfnBIdeal.main_arg4) = m ((c.tc : Thread Cert.FfnBIdeal.nD Cert.FfnBIdeal.τ).loc Cert.FfnBIdeal.main_arg4)
          ∧ r.2.mem ((c.tc : Thread Cert.FfnBIdeal.nD Cert.FfnBIdeal.τ).loc Cert.FfnBIdeal.main_arg5) = m ((c.tc : Thread Cert.FfnBIdeal.nD Cert.FfnBIdeal.τ).loc Cert.FfnBIdeal.main_arg5))
      ∧ θ_run (Cert.FfnBRefIdeal.defs (F := Ideal)) (onTc (τ := Cert.FfnBRefIdeal.τ) (Cert.FfnBRefIdeal.main (F := Ideal))) ⟨m', fun _ => 0, g'⟩ (fun r => ∀ c : Dev Cert.FfnBRefIdeal.nD,
          r.2.mem ((c.tc : Thread Cert.FfnBRefIdeal.nD Cert.FfnBRefIdeal.τ).loc Cert.FfnBRefIdeal.main_v43) = v0 c
          ∧ r.2.mem ((c.tc : Thread Cert.FfnBRefIdeal.nD Cert.FfnBRefIdeal.τ).loc Cert.FfnBRefIdeal.main_arg0) = m' ((c.tc : Thread Cert.FfnBRefIdeal.nD Cert.FfnBRefIdeal.τ).loc Cert.FfnBRefIdeal.main_arg0)
          ∧ r.2.mem ((c.tc : Thread Cert.FfnBRefIdeal.nD Cert.FfnBRefIdeal.τ).loc Cert.FfnBRefIdeal.main_arg1) = m' ((c.tc : Thread Cert.FfnBRefIdeal.nD Cert.FfnBRefIdeal.τ).loc Cert.FfnBRefIdeal.main_arg1)
          ∧ r.2.mem ((c.tc : Thread Cert.FfnBRefIdeal.nD Cert.FfnBRefIdeal.τ).loc Cert.FfnBRefIdeal.main_arg2) = m' ((c.tc : Thread Cert.FfnBRefIdeal.nD Cert.FfnBRefIdeal.τ).loc Cert.FfnBRefIdeal.main_arg2)
          ∧ r.2.mem ((c.tc : Thread Cert.FfnBRefIdeal.nD Cert.FfnBRefIdeal.τ).loc Cert.FfnBRefIdeal.main_arg3) = m' ((c.tc : Thread Cert.FfnBRefIdeal.nD Cert.FfnBRefIdeal.τ).loc Cert.FfnBRefIdeal.main_arg3)
          ∧ r.2.mem ((c.tc : Thread Cert.FfnBRefIdeal.nD Cert.FfnBRefIdeal.τ).loc Cert.FfnBRefIdeal.main_arg4) = m' ((c.tc : Thread Cert.FfnBRefIdeal.nD Cert.FfnBRefIdeal.τ).loc Cert.FfnBRefIdeal.main_arg4)
          ∧ r.2.mem ((c.tc : Thread Cert.FfnBRefIdeal.nD Cert.FfnBRefIdeal.τ).loc Cert.FfnBRefIdeal.main_arg5) = m' ((c.tc : Thread Cert.FfnBRefIdeal.nD Cert.FfnBRefIdeal.τ).loc Cert.FfnBRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v31) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v6)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v6) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v20) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Sb_SbIdeal : Prop :=
  True

def algebraic_SbIdeal_SbRefIdeal_pre_finite_sb [hSbIdeal : Cert.SbIdeal.Facts] [hSbRefIdeal : Cert.SbRefIdeal.Facts] [hPre_finite_sb : Cert.Pre_finite_sb.Facts] : Prop :=
  ∀ (m : (ℓ : Loc Cert.SbIdeal.nD Cert.SbIdeal.τ Cert.SbIdeal.sig) → Buf (Elt Ideal) ℓ) (g : Dev Cert.SbIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbIdeal_finite_sb m →
    (∀ c : Dev Cert.SbIdeal.nD,
      m' ((c.tc : Thread Cert.SbRefIdeal.nD Cert.SbRefIdeal.τ).loc Cert.SbRefIdeal.main_arg0) = m ((c.tc : Thread Cert.SbIdeal.nD Cert.SbIdeal.τ).loc Cert.SbIdeal.main_arg0)
      ∧ m' ((c.tc : Thread Cert.SbRefIdeal.nD Cert.SbRefIdeal.τ).loc Cert.SbRefIdeal.main_arg1) = m ((c.tc : Thread Cert.SbIdeal.nD Cert.SbIdeal.τ).loc Cert.SbIdeal.main_arg1)
      ∧ m' ((c.tc : Thread Cert.SbRefIdeal.nD Cert.SbRefIdeal.τ).loc Cert.SbRefIdeal.main_arg2) = m ((c.tc : Thread Cert.SbIdeal.nD Cert.SbIdeal.τ).loc Cert.SbIdeal.main_arg2)) →
    ∃ (v0 : (c : Dev Cert.SbIdeal.nD) → Buf (Elt Ideal) ((c.tc : Thread Cert.SbIdeal.nD Cert.SbIdeal.τ).loc Cert.SbIdeal.main_v0)),
      θ_run (Cert.SbIdeal.defs (F := Ideal)) (onTc (τ := Cert.SbIdeal.τ) (Cert.SbIdeal.main (F := Ideal))) ⟨m, fun _ => 0, g⟩ (fun r => ∀ c : Dev Cert.SbIdeal.nD,
          r.2.mem ((c.tc : Thread Cert.SbIdeal.nD Cert.SbIdeal.τ).loc Cert.SbIdeal.main_v0) = v0 c
          ∧ r.2.mem ((c.tc : Thread Cert.SbIdeal.nD Cert.SbIdeal.τ).loc Cert.SbIdeal.main_arg0) = m ((c.tc : Thread Cert.SbIdeal.nD Cert.SbIdeal.τ).loc Cert.SbIdeal.main_arg0)
          ∧ r.2.mem ((c.tc : Thread Cert.SbIdeal.nD Cert.SbIdeal.τ).loc Cert.SbIdeal.main_arg1) = m ((c.tc : Thread Cert.SbIdeal.nD Cert.SbIdeal.τ).loc Cert.SbIdeal.main_arg1)
          ∧ r.2.mem ((c.tc : Thread Cert.SbIdeal.nD Cert.SbIdeal.τ).loc Cert.SbIdeal.main_arg2) = m ((c.tc : Thread Cert.SbIdeal.nD Cert.SbIdeal.τ).loc Cert.SbIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v26) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def Claim : Prop :=
  ∃ (hMla : Cert.Mla.Facts) (hMlaIdeal : Cert.MlaIdeal.Facts) (hMlaRefIdeal : Cert.MlaRefIdeal.Facts) (hFfn : Cert.Ffn.Facts) (hFfnIdeal : Cert.FfnIdeal.Facts) (hFfnRefIdeal : Cert.FfnRefIdeal.Facts) (hFfnB : Cert.FfnB.Facts) (hFfnBIdeal : Cert.FfnBIdeal.Facts) (hFfnBRefIdeal : Cert.FfnBRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hSb : Cert.Sb.Facts) (hSbIdeal : Cert.SbIdeal.Facts) (hSbRefIdeal : Cert.SbRefIdeal.Facts) (hAda : Cert.Ada.Facts) (hAdaIdeal : Cert.AdaIdeal.Facts) (hAdaRefIdeal : Cert.AdaRefIdeal.Facts) (hPre_finite_mla : Cert.Pre_finite_mla.Facts) (hPre_finite_sb : Cert.Pre_finite_sb.Facts),
    quiescent_Mla (hMla := hMla)
    ∧ quiescent_MlaIdeal (hMlaIdeal := hMlaIdeal)
    ∧ quiescent_MlaIdeal_pre_finite_mla (hMlaIdeal := hMlaIdeal) (hPre_finite_mla := hPre_finite_mla)
    ∧ quiescent_MlaRefIdeal (hMlaRefIdeal := hMlaRefIdeal)
    ∧ quiescent_MlaRefIdeal_pre_finite_mla (hMlaRefIdeal := hMlaRefIdeal) (hPre_finite_mla := hPre_finite_mla)
    ∧ quiescent_Ffn (hFfn := hFfn)
    ∧ quiescent_FfnIdeal (hFfnIdeal := hFfnIdeal)
    ∧ quiescent_FfnRefIdeal (hFfnRefIdeal := hFfnRefIdeal)
    ∧ quiescent_FfnB (hFfnB := hFfnB)
    ∧ quiescent_FfnBIdeal (hFfnBIdeal := hFfnBIdeal)
    ∧ quiescent_FfnBRefIdeal (hFfnBRefIdeal := hFfnBRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Sb (hSb := hSb)
    ∧ quiescent_SbIdeal (hSbIdeal := hSbIdeal)
    ∧ quiescent_SbIdeal_pre_finite_sb (hSbIdeal := hSbIdeal) (hPre_finite_sb := hPre_finite_sb)
    ∧ quiescent_SbRefIdeal (hSbRefIdeal := hSbRefIdeal)
    ∧ quiescent_SbRefIdeal_pre_finite_sb (hSbRefIdeal := hSbRefIdeal) (hPre_finite_sb := hPre_finite_sb)
    ∧ quiescent_Ada (hAda := hAda)
    ∧ quiescent_AdaIdeal (hAdaIdeal := hAdaIdeal)
    ∧ quiescent_AdaRefIdeal (hAdaRefIdeal := hAdaRefIdeal)
    ∧ preserves_Mla_MlaIdeal
    ∧ algebraic_MlaIdeal_MlaRefIdeal_pre_finite_mla (hMlaIdeal := hMlaIdeal) (hMlaRefIdeal := hMlaRefIdeal) (hPre_finite_mla := hPre_finite_mla)
    ∧ preserves_Ffn_FfnIdeal
    ∧ algebraic_FfnIdeal_FfnRefIdeal (hFfnIdeal := hFfnIdeal) (hFfnRefIdeal := hFfnRefIdeal)
    ∧ preserves_FfnB_FfnBIdeal
    ∧ algebraic_FfnBIdeal_FfnBRefIdeal (hFfnBIdeal := hFfnBIdeal) (hFfnBRefIdeal := hFfnBRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Sb_SbIdeal
    ∧ algebraic_SbIdeal_SbRefIdeal_pre_finite_sb (hSbIdeal := hSbIdeal) (hSbRefIdeal := hSbRefIdeal) (hPre_finite_sb := hPre_finite_sb)
    ∧ preserves_Ada_AdaIdeal
    ∧ algebraic_AdaIdeal_AdaRefIdeal (hAdaIdeal := hAdaIdeal) (hAdaRefIdeal := hAdaRefIdeal)
-- ==== Pre_finite_mla.lean ====
abbrev S8x4096x2048 : Shape := ⟨3, ![8, 4096, 2048]⟩
abbrev S8x16x1024x256 : Shape := ⟨4, ![8, 16, 1024, 256]⟩
abbrev S_ : Shape := ⟨0, ![]⟩

class Facts : Prop where
  bcast_S_S8x4096x2048 : S_.BroadcastsInDim S8x4096x2048 (![] : Fin 0 → Fin S8x4096x2048.rank)

variable [Facts]

def fn {F : FTy → Type} [FloatOps F] (main_arg0 : FVec F S8x4096x2048 .bf16) (main_arg1 : FVec F S8x4096x2048 .bf16) (main_arg2 : FVec F S8x16x1024x256 .bf16) : IVec S8x4096x2048 1 × IVec S8x4096x2048 1 :=
  let main_v0 : FVec F S8x4096x2048 .bf16 := Host.absf main_arg0
  let main_cst : FVec F S_ .bf16 := constant S_ .bf16 0x7F80#16
  let main_v1 : FVec F S8x4096x2048 .bf16 := broadcastInDim S8x4096x2048 ![] bcast_S_S8x4096x2048 main_cst
  let main_v2 : IVec S8x4096x2048 1 := cmpf .olt main_v0 main_v1
  let main_v3 : FVec F S8x4096x2048 .bf16 := Host.absf main_arg1
  let main_cst_0 : FVec F S_ .bf16 := constant S_ .bf16 0x7F80#16
  let main_v4 : FVec F S8x4096x2048 .bf16 := broadcastInDim S8x4096x2048 ![] bcast_S_S8x4096x2048 main_cst_0
  let main_v5 : IVec S8x4096x2048 1 := cmpf .olt main_v3 main_v4
  (main_v2, main_v5)
-- ==== Pre_finite_sb.lean ====
abbrev S8x4096x512 : Shape := ⟨3, ![8, 4096, 512]⟩
abbrev S8x16x512x256 : Shape := ⟨4, ![8, 16, 512, 256]⟩
abbrev S_ : Shape := ⟨0, ![]⟩

class Facts : Prop where
  bcast_S_S8x4096x512 : S_.BroadcastsInDim S8x4096x512 (![] : Fin 0 → Fin S8x4096x512.rank)

variable [Facts]

def fn {F : FTy → Type} [FloatOps F] (main_arg0 : FVec F S8x4096x512 .bf16) (main_arg1 : FVec F S8x4096x512 .bf16) (main_arg2 : FVec F S8x16x512x256 .bf16) : IVec S8x4096x512 1 × IVec S8x4096x512 1 :=
  let main_v0 : FVec F S8x4096x512 .bf16 := Host.absf main_arg0
  let main_cst : FVec F S_ .bf16 := constant S_ .bf16 0x7F80#16
  let main_v1 : FVec F S8x4096x512 .bf16 := broadcastInDim S8x4096x512 ![] bcast_S_S8x4096x512 main_cst
  let main_v2 : IVec S8x4096x512 1 := cmpf .olt main_v0 main_v1
  let main_v3 : FVec F S8x4096x512 .bf16 := Host.absf main_arg1
  let main_cst_0 : FVec F S_ .bf16 := constant S_ .bf16 0x7F80#16
  let main_v4 : FVec F S8x4096x512 .bf16 := broadcastInDim S8x4096x512 ![] bcast_S_S8x4096x512 main_cst_0
  let main_v5 : IVec S8x4096x512 1 := cmpf .olt main_v3 main_v4
  (main_v2, main_v5)
-- ==== Mla.lean ====
abbrev S8x4096x2048 : Shape := ⟨3, ![8, 4096, 2048]⟩
abbrev S8x16x1024x256 : Shape := ⟨4, ![8, 16, 1024, 256]⟩
abbrev S8x4096x1024 : Shape := ⟨3, ![8, 4096, 1024]⟩
abbrev S1x256x256 : Shape := ⟨3, ![1, 256, 256]⟩
abbrev S1x4096x256 : Shape := ⟨3, ![1, 4096, 256]⟩
abbrev S1x16x128x256 : Shape := ⟨4, ![1, 16, 128, 256]⟩
abbrev S1x256x128 : Shape := ⟨3, ![1, 256, 128]⟩
abbrev S1x256 : Shape := ⟨2, ![1, 256]⟩
abbrev S128x256 : Shape := ⟨2, ![128, 256]⟩
abbrev S256x256 : Shape := ⟨2, ![256, 256]⟩
abbrev S256 : Shape := ⟨1, ![256]⟩
abbrev S1x1x128x256 : Shape := ⟨4, ![1, 1, 128, 256]⟩
abbrev S256x128 : Shape := ⟨2, ![256, 128]⟩

abbrev nBuf : Space → Nat
  | .hbm => 4
  | .vmem => 11
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x16x1024x256, .bf16⟩
  | .hbm, ⟨3, _⟩ => ⟨S8x4096x1024, .bf16⟩
  | .local _ .vmem, ⟨0, _⟩ => ⟨S1x256x256, .bf16⟩
  | .local _ .vmem, ⟨1, _⟩ => ⟨S1x256x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S1x256x128, .bf16⟩
  | .local _ .vmem, ⟨7, _⟩ => ⟨S1x256x128, .bf16⟩
  | .local _ .vmem, ⟨8, _⟩ => ⟨S1x256, .f32⟩
  | .local _ .vmem, ⟨9, _⟩ => ⟨S1x256, .f32⟩
  | .local _ .vmem, ⟨10, _⟩ => ⟨S128x256, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 16], ![false, false, false]⟩

@[reducible] def k0_t1_loop (i : grid0.Coords) : Scf.Loop 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_11 : BitVec 32 := 1#32
  ⟨c0_i32_10, v18, c1_i32_11⟩
def k0_mult1 (i : grid0.Coords) (k0_t1 : Fin (k0_t1_loop i).trips) : BitVec 32 :=
  let c0_i32_10 : BitVec 32 := 0#32
  let c1_i32_11 : BitVec 32 := 1#32
  let arg10 : BitVec 32 := Scf.iv c0_i32_10 c1_i32_11 k0_t1
  let c256_i32_43 : BitVec 32 := 256#32
  let v75 : BitVec 32 := Scalar.muli arg10 c256_i32_43
  v75
def k0_off1 (i : grid0.Coords) (k0_t1 : Fin (k0_t1_loop i).trips) : Fin 3 → Nat :=
  let c0_44 : Index := 0#32
  let c0_i32_10 : BitVec 32 := 0#32
  let c1_i32_11 : BitVec 32 := 1#32
  let arg10 : BitVec 32 := Scf.iv c0_i32_10 c1_i32_11 k0_t1
  let c256_i32_43 : BitVec 32 := 256#32
  let v75 : BitVec 32 := Scalar.muli arg10 c256_i32_43
  let v76 : BitVec 32 := v75
  let v77 : Index := Scalar.indexCast v76
  let c0_45 : Index := 0#32
  ![0, v77.toNat, 0]
def k0_off2 (i : grid0.Coords) (k0_t1 : Fin (k0_t1_loop i).trips) : Fin 4 → Nat :=
  let c0_57 : Index := 0#32
  let c0_i32_10 : BitVec 32 := 0#32
  let c1_i32_11 : BitVec 32 := 1#32
  let arg10 : BitVec 32 := Scf.iv c0_i32_10 c1_i32_11 k0_t1
  let v101 : Index := Scalar.indexCast arg10
  let c0_58 : Index := 0#32
  let c0_59 : Index := 0#32
  ![0, v101.toNat, 0, 0]
@[reducible] def k0_t2_loop (i : grid0.Coords) : Scf.Loop 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let v15 : BitVec 32 := Scalar.addi c0_i32_10 v14
  let c1_i32_12 : BitVec 32 := 1#32
  ⟨v18, v15, c1_i32_12⟩
def k0_mult2 (i : grid0.Coords) (k0_t2 : Fin (k0_t2_loop i).trips) : BitVec 32 :=
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c256_i32_43 : BitVec 32 := 256#32
  let v75 : BitVec 32 := Scalar.muli arg10 c256_i32_43
  v75
def k0_off3 (i : grid0.Coords) (k0_t2 : Fin (k0_t2_loop i).trips) : Fin 3 → Nat :=
  let c0_44 : Index := 0#32
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let c256_i32_43 : BitVec 32 := 256#32
  let v75 : BitVec 32 := Scalar.muli arg10 c256_i32_43
  let v76 : BitVec 32 := v75
  let v77 : Index := Scalar.indexCast v76
  let c0_45 : Index := 0#32
  ![0, v77.toNat, 0]
def k0_off4 (i : grid0.Coords) (k0_t2 : Fin (k0_t2_loop i).trips) : Fin 4 → Nat :=
  let c0_57 : Index := 0#32
  let c0_i32_10 : BitVec 32 := 0#32
  let arg2 : BitVec 32 := BitVec.ofNat 32 (i 2).val
  let v14 : BitVec 32 := Scalar.subi arg2 c0_i32_10
  let c1_i32 : BitVec 32 := 1#32
  let v16 : BitVec 32 := Scalar.divsi v14 c1_i32
  let v17 : BitVec 32 := Scalar.muli v16 c1_i32
  let v18 : BitVec 32 := Scalar.addi c0_i32_10 v17
  let c1_i32_12 : BitVec 32 := 1#32
  let arg10 : BitVec 32 := Scf.iv v18 c1_i32_12 k0_t2
  let v101 : Index := Scalar.indexCast arg10
  let c0_58 : Index := 0#32
  let c0_59 : Index := 0#32
  ![0, v101.toNat, 0, 0]
def k0_mult3 (i : grid0.Coords) : BitVec 32 :=
  let arg2 : BitVec 32 := BitVec.ofNat 32 (i 2).val
  let c256_i32 : BitVec 32 := 256#32
  let v19 : BitVec 32 := Scalar.muli arg2 c256_i32
  v19
def k0_off5 (i : grid0.Coords) : Fin 3 → Nat :=
  let c0_13 : Index := 0#32
  let arg2 : BitVec 32 := BitVec.ofNat 32 (i 2).val
  let c256_i32 : BitVec 32 := 256#32
  let v19 : BitVec 32 := Scalar.muli arg2 c256_i32
  let v20 : BitVec 32 := v19
  let v21 : Index := Scalar.indexCast v20
  let c0_14 : Index := 0#32
  ![0, v21.toNat, 0]
def k0_off6 (i : grid0.Coords) : Fin 4 → Nat :=
  let c0_28 : Index := 0#32
  let arg2 : BitVec 32 := BitVec.ofNat 32 (i 2).val
  let v54 : Index := Scalar.indexCast arg2
  let c0_29 : Index := 0#32
  let c0_30 : Index := 0#32
  ![0, v54.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S8x4096x2048 : Shape := ⟨3, ![8, 4096, 2048]⟩
abbrev S8x16x1024x256 : Shape := ⟨4, ![8, 16, 1024, 256]⟩
abbrev S8x4096x8x256 : Shape := ⟨4, ![8, 4096, 8, 256]⟩
abbrev S8x16x256x1024 : Shape := ⟨4, ![8, 16, 256, 1024]⟩
abbrev S8x4096x8x128 : Shape := ⟨4, ![8, 4096, 8, 128]⟩
abbrev S4096 : Shape := ⟨1, ![4096]⟩
abbrev S1x4096 : Shape := ⟨2, ![1, 4096]⟩
abbrev S_ : Shape := ⟨0, ![]⟩
abbrev S4096x1 : Shape := ⟨2, ![4096, 1]⟩
abbrev S4096x4096 : Shape := ⟨2, ![4096, 4096]⟩
abbrev S8x8x4096x4096 : Shape := ⟨4, ![8, 8, 4096, 4096]⟩
abbrev S1x1x4096x4096 : Shape := ⟨4, ![1, 1, 4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S8x4096x1024 : Shape := ⟨3, ![8, 4096, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S8x4096x2048, .bf16⟩
  | .hbm, ⟨2, _⟩ => ⟨S8x16x1024x256, .bf16⟩
  | .hbm, ⟨3, _⟩ => ⟨S8x4096x2048, .f32⟩
  | .hbm, ⟨4, _⟩ => ⟨S8x4096x8x256, .f32⟩
  | .hbm, ⟨5, _⟩ => ⟨S8x4096x2048, .f32⟩
  | .hbm, ⟨6, _⟩ => ⟨S8x4096x8x256, .f32⟩
  | .hbm, ⟨7, _⟩ => ⟨S8x16x1024x256, .f32⟩
  | .hbm, ⟨8, _⟩ => ⟨S8x16x256x1024, .f32⟩
  | .hbm, ⟨9, _⟩ => ⟨S8x4096x8x128, .f32⟩
  | .hbm, ⟨10, _⟩ => ⟨S8x4096x8x128, .f32⟩
  | .hbm, ⟨11, _⟩ => ⟨S8x4096x8x128, .f32⟩
  | .hbm, ⟨12, _⟩ => ⟨S8x4096x8x128, .f32⟩
  | .hbm, ⟨13, _⟩ => ⟨S8x4096x8x128, .f32⟩
  | .hbm, ⟨14, _⟩ => ⟨S4096, .i32⟩
  | .hbm, ⟨15, _⟩ => ⟨S1x4096, .i32⟩
  | .hbm, ⟨16, _⟩ => ⟨S_, .i32⟩
  | .hbm, ⟨17, _⟩ => ⟨S_, .i32⟩
  | .hbm, ⟨18, _⟩ => ⟨S1x4096, .i32⟩
  | .hbm, ⟨19, _⟩ => ⟨S1x4096, .i32⟩
  | .hbm, ⟨20, _⟩ => ⟨S1x4096, .i32⟩
  | .hbm, ⟨21, _⟩ => ⟨S_, .i32⟩
  | .hbm, ⟨22, _⟩ => ⟨S1x4096, .i32⟩
  | .hbm, ⟨23, _⟩ => ⟨S1x4096, .i1⟩
  | .hbm, ⟨24, _⟩ => ⟨S1x4096, .i32⟩
  | .hbm, ⟨25, _⟩ => ⟨S1x4096, .i32⟩
  | .hbm, ⟨26, _⟩ => ⟨S_, .i32⟩
  | .hbm, ⟨27, _⟩ => ⟨S1x4096, .i32⟩
  | .hbm, ⟨28, _⟩ => ⟨S1x4096, .i1⟩
  | .hbm, ⟨29, _⟩ => ⟨S1x4096, .i1⟩
  | .hbm, ⟨30, _⟩ => ⟨S_, .i32⟩
  | .hbm, ⟨31, _⟩ => ⟨S1x4096, .i32⟩
  | .hbm, ⟨32, _⟩ => ⟨S1x4096, .i32⟩
  | .hbm, ⟨33, _⟩ => ⟨S1x4096, .i32⟩
  | .hbm, ⟨34, _⟩ => ⟨S4096x1, .i32⟩
  | .hbm, ⟨35, _⟩ => ⟨S_, .i32⟩
  | .hbm, ⟨36, _⟩ => ⟨S_, .i32⟩
  | .hbm, ⟨37, _⟩ => ⟨S4096x1, .i32⟩
  | .hbm, ⟨38, _⟩ => ⟨S4096x1, .i32⟩
  | .hbm, ⟨39, _⟩ => ⟨S4096x1, .i32⟩
  | .hbm, ⟨40, _⟩ => ⟨S_, .i32⟩
  | .hbm, ⟨41, _⟩ => ⟨S4096x1, .i32⟩
  | .hbm, ⟨42, _⟩ => ⟨S4096x1, .i1⟩
  | .hbm, ⟨43, _⟩ => ⟨S4096x1, .i32⟩
  | .hbm, ⟨44, _⟩ => ⟨S4096x1, .i32⟩
  | .hbm, ⟨45, _⟩ => ⟨S_, .i32⟩
  | .hbm, ⟨46, _⟩ => ⟨S4096x1, .i32⟩
  | .hbm, ⟨47, _⟩ => ⟨S4096x1, .i1⟩
  | .hbm, ⟨48, _⟩ => ⟨S4096x1, .i1⟩
  | .hbm, ⟨49, _⟩ => ⟨S_, .i32⟩
  | .hbm, ⟨50, _⟩ => ⟨S4096x1, .i32⟩
  | .hbm, ⟨51, _⟩ => ⟨S4096x1, .i32⟩
  | .hbm, ⟨52, _⟩ => ⟨S4096x1, .i32⟩
  | .hbm, ⟨53, _⟩ => ⟨S4096x4096, .i32⟩
  | .hbm, ⟨54, _⟩ => ⟨S4096x4096, .i32⟩
  | .hbm, ⟨55, _⟩ => ⟨S4096x4096, .i1⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S1x1x4096x4096, .i1⟩
  | .hbm, ⟨60, _⟩ => ⟨S_, .f32⟩
  | .hbm, ⟨61, _⟩ => ⟨S_, .f32⟩
  | .hbm, ⟨62, _⟩ => ⟨S8x8x4096x4096, .i1⟩
  | .hbm, ⟨63, _⟩ => ⟨S8x8x4096x4096, .f32⟩
  | .hbm, ⟨64, _⟩ => ⟨S8x8x4096x4096, .f32⟩
  | .hbm, ⟨65, _⟩ => ⟨S_, .f32⟩
  | .hbm, ⟨66, _⟩ => ⟨S8x8x4096, .f32⟩
  | .hbm, ⟨67, _⟩ => ⟨S_, .f32⟩
  | .hbm, ⟨68, _⟩ => ⟨S8x8x4096, .f32⟩
  | .hbm, ⟨69, _⟩ => ⟨S8x8x4096, .f32⟩
  | .hbm, ⟨70, _⟩ => ⟨S8x8x4096x1, .f32⟩
  | .hbm, ⟨71, _⟩ => ⟨S8x8x4096x4096, .f32⟩
  | .hbm, ⟨72, _⟩ => ⟨S8x8x4096x4096, .f32⟩
  | .hbm, ⟨73, _⟩ => ⟨S8x8x4096x4096, .f32⟩
  | .hbm, ⟨74, _⟩ => ⟨S_, .f32⟩
  | .hbm, ⟨75, _⟩ => ⟨S8x8x4096, .f32⟩
  | .hbm, ⟨76, _⟩ => ⟨S8x8x4096x1, .f32⟩
  | .hbm, ⟨77, _⟩ => ⟨S8x8x4096x4096, .f32⟩
  | .hbm, ⟨78, _⟩ => ⟨S8x8x4096x4096, .f32⟩
  | .hbm, ⟨79, _⟩ => ⟨S8x8x128x4096, .f32⟩
  | .hbm, ⟨80, _⟩ => ⟨S8x4096x8x128, .f32⟩
  | .hbm, ⟨81, _⟩ => ⟨S8x4096x1024, .f32⟩
  | .hbm, ⟨82, _⟩ => ⟨S8x4096x1024, .bf16⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v23 : Ref sig .tc := ⟨.hbm, 64, rfl⟩
abbrev main_cst_1 : Ref sig .tc := ⟨.hbm, 65, rfl⟩
abbrev main_v24 : Ref sig .tc := ⟨.hbm, 66, rfl⟩
abbrev main_cst_2 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_3 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩

abbrev nD : Nat := 1
abbrev τ : Topo := Topo.v7x

variable {F : FTy → Type} [FloatOps F]
-- ==== Ffn.lean ====
abbrev S8x4096x2048 : Shape := ⟨3, ![8, 4096, 2048]⟩
abbrev S8x18432 : Shape := ⟨2, ![8, 18432]⟩
abbrev S2048 : Shape := ⟨1, ![2048]⟩
abbrev S2048x5632 : Shape := ⟨2, ![2048, 5632]⟩
abbrev S5632x2048 : Shape := ⟨2, ![5632, 2048]⟩
abbrev S32768x2048 : Shape := ⟨2, ![32768, 2048]⟩
abbrev S8x9x2048 : Shape := ⟨3, ![8, 9, 2048]⟩
abbrev S1x2048 : Shape := ⟨2, ![1, 2048]⟩
abbrev S512x2048 : Shape := ⟨2, ![512, 2048]⟩
abbrev S1x9x2048 : Shape := ⟨3, ![1, 9, 2048]⟩
abbrev S2048x512 : Shape := ⟨2, ![2048, 512]⟩
abbrev S1x1x2048 : Shape := ⟨3, ![1, 1, 2048]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 15
  | .smem => 0
  | _ => 0

abbrev bufTy : (tb : Table) → Fin (tcTables nBuf tb) → BufTy
  | .hbm, ⟨0, _⟩ => ⟨S8x4096x2048, .f32⟩
  | .hbm, ⟨1, _⟩ => ⟨S8x18432, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S32768x2048, .f32⟩
  | .hbm, ⟨7, _⟩ => ⟨S8x9x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 11], ![false, false]⟩

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8x4096x2048 : Shape := ⟨3, ![8, 4096, 2048]⟩
abbrev S8x18432 : Shape := ⟨2, ![8, 18432]⟩
abbrev S2048 : Shape := ⟨1, ![2048]⟩
abbrev S2048x5632 : Shape := ⟨2, ![2048, 5632]⟩
abbrev S5632x2048 : Shape := ⟨2, ![5632, 2048]⟩
abbrev S8x2048 : Shape := ⟨2, ![8, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x5632 : Shape := ⟨3, ![8, 4096, 5632]⟩
abbrev S32768x2048 : Shape := ⟨2, ![32768, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x18432, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x4096x2048, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x2048, .f32⟩
  | .hbm, ⟨27, _⟩ => ⟨S8x4096x2048, .f32⟩
  | .hbm, ⟨28, _⟩ => ⟨S1x1x2048, .f32⟩
  | .hbm, ⟨29, _⟩ => ⟨S8x4096x2048, .f32⟩
  | .hbm, ⟨30, _⟩ => ⟨S8x4096x2048, .f32⟩
  | .hbm, ⟨31, _⟩ => ⟨S8x1x2048, .f32⟩
  | .hbm, ⟨32, _⟩ => ⟨S_, .f32⟩
  | .hbm, ⟨33, _⟩ => ⟨S8x1x2048, .f32⟩
  | .hbm, ⟨34, _⟩ => ⟨S8x1x2048, .f32⟩
  | .hbm, ⟨35, _⟩ => ⟨S8x4096x2048, .f32⟩
  | .hbm, ⟨36, _⟩ => ⟨S8x4096x2048, .f32⟩
  | .hbm, ⟨37, _⟩ => ⟨S8x1x2048, .f32⟩
  | .hbm, ⟨38, _⟩ => ⟨S8x4096x2048, .f32⟩
  | .hbm, ⟨39, _⟩ => ⟨S8x4096x2048, .f32⟩
  | .hbm, ⟨40, _⟩ => ⟨S8x1x2048, .f32⟩
  | .hbm, ⟨41, _⟩ => ⟨S_, .f32⟩
  | .hbm, ⟨42, _⟩ => ⟨S8x1x2048, .f32⟩
  | .hbm, ⟨43, _⟩ => ⟨S8x1x2048, .f32⟩
  | .hbm, ⟨44, _⟩ => ⟨S_, .f32⟩
  | .hbm, ⟨45, _⟩ => ⟨S8x1x2048, .f32⟩
  | .hbm, ⟨46, _⟩ => ⟨S8x1x2048, .f32⟩
  | .hbm, ⟨47, _⟩ => ⟨S8x4096x5632, .f32⟩
  | .hbm, ⟨48, _⟩ => ⟨S8x4096x5632, .f32⟩
  | .hbm, ⟨49, _⟩ => ⟨S8x4096x5632, .f32⟩
  | .hbm, ⟨50, _⟩ => ⟨S_, .f32⟩
  | .hbm, ⟨51, _⟩ => ⟨S8x4096x5632, .f32⟩
  | .hbm, ⟨52, _⟩ => ⟨S8x4096x5632, .f32⟩
  | .hbm, ⟨53, _⟩ => ⟨S_, .f32⟩
  | .hbm, ⟨54, _⟩ => ⟨S8x4096x5632, .f32⟩
  | .hbm, ⟨55, _⟩ => ⟨S8x4096x5632, .f32⟩
  | .hbm, ⟨56, _⟩ => ⟨S8x4096x5632, .f32⟩
  | .hbm, ⟨57, _⟩ => ⟨S8x4096x5632, .f32⟩
  | .hbm, ⟨58, _⟩ => ⟨S8x4096x5632, .f32⟩
  | .hbm, ⟨59, _⟩ => ⟨S8x4096x2048, .f32⟩
  | .hbm, ⟨60, _⟩ => ⟨S8x4096x2048, .f32⟩
  | .hbm, ⟨61, _⟩ => ⟨S8x4096x2048, .f32⟩
  | .hbm, ⟨62, _⟩ => ⟨S8x4096x2048, .f32⟩
  | .hbm, ⟨63, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== FfnB.lean ====
abbrev S8x4096x2048 : Shape := ⟨3, ![8, 4096, 2048]⟩
abbrev S8x18432 : Shape := ⟨2, ![8, 18432]⟩
abbrev S2048 : Shape := ⟨1, ![2048]⟩
abbrev S2048x5632 : Shape := ⟨2, ![2048, 5632]⟩
abbrev S5632x2048 : Shape := ⟨2, ![5632, 2048]⟩
abbrev S32768x2048 : Shape := ⟨2, ![32768, 2048]⟩
abbrev S8x9x2048 : Shape := ⟨3, ![8, 9, 2048]⟩
abbrev S1x2048 : Shape := ⟨2, ![1, 2048]⟩
abbrev S512x2048 : Shape := ⟨2, ![512, 2048]⟩
abbrev S1x9x2048 : Shape := ⟨3, ![1, 9, 2048]⟩
abbrev S2048x512 : Shape := ⟨2, ![2048, 512]⟩
abbrev S1x1x2048 : Shape := ⟨3, ![1, 1, 2048]⟩
abbrev S512 : Shape := ⟨1, ![512]⟩
abbrev S512x1 : Shape := ⟨2, ![512, 1]⟩
abbrev S512x512 : Shape := ⟨2, ![512, 512]⟩

abbrev nBuf : Space → Nat
  | .hbm => 13
  | .vmem => 15
  | .smem => 0
  | _ => 0

abbrev bufTy : (tb : Table) → Fin (tcTables nBuf tb) → BufTy
  | .hbm, ⟨0, _⟩ => ⟨S8x4096x2048, .f32⟩
  | .hbm, ⟨1, _⟩ => ⟨S8x18432, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S32768x2048, .f32⟩
  | .hbm, ⟨7, _⟩ => ⟨S8x9x2048, .f32⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S1x2048, .f32⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 11], ![false, false]⟩

def k0_cond4 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnBRefIdeal.lean ====
abbrev S8x4096x2048 : Shape := ⟨3, ![8, 4096, 2048]⟩
abbrev S8x18432 : Shape := ⟨2, ![8, 18432]⟩
abbrev S2048 : Shape := ⟨1, ![2048]⟩
abbrev S2048x5632 : Shape := ⟨2, ![2048, 5632]⟩
abbrev S5632x2048 : Shape := ⟨2, ![5632, 2048]⟩
abbrev S8x2048 : Shape := ⟨2, ![8, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x5632 : Shape := ⟨3, ![8, 4096, 5632]⟩
abbrev S32768x2048 : Shape := ⟨2, ![32768, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x18432, .f32⟩
  | .hbm, ⟨2, _⟩ => ⟨S2048, .f32⟩
  | .hbm, ⟨3, _⟩ => ⟨S2048x5632, .f32⟩
  | .hbm, ⟨4, _⟩ => ⟨S2048x5632, .f32⟩
  | .hbm, ⟨5, _⟩ => ⟨S5632x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x4096x2048, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x2048, .f32⟩
  | .hbm, ⟨27, _⟩ => ⟨S8x4096x2048, .f32⟩
  | .hbm, ⟨28, _⟩ => ⟨S1x1x2048, .f32⟩
  | .hbm, ⟨29, _⟩ => ⟨S8x4096x2048, .f32⟩
  | .hbm, ⟨30, _⟩ => ⟨S8x4096x2048, .f32⟩
  | .hbm, ⟨31, _⟩ => ⟨S8x1x2048, .f32⟩
  | .hbm, ⟨32, _⟩ => ⟨S_, .f32⟩
  | .hbm, ⟨33, _⟩ => ⟨S8x1x2048, .f32⟩
  | .hbm, ⟨34, _⟩ => ⟨S8x1x2048, .f32⟩
  | .hbm, ⟨35, _⟩ => ⟨S8x4096x2048, .f32⟩
  | .hbm, ⟨36, _⟩ => ⟨S8x4096x2048, .f32⟩
  | .hbm, ⟨37, _⟩ => ⟨S8x1x2048, .f32⟩
  | .hbm, ⟨38, _⟩ => ⟨S8x4096x2048, .f32⟩
  | .hbm, ⟨39, _⟩ => ⟨S8x4096x2048, .f32⟩
  | .hbm, ⟨40, _⟩ => ⟨S8x1x2048, .f32⟩
  | .hbm, ⟨41, _⟩ => ⟨S_, .f32⟩
  | .hbm, ⟨42, _⟩ => ⟨S8x1x2048, .f32⟩
  | .hbm, ⟨43, _⟩ => ⟨S8x1x2048, .f32⟩
  | .hbm, ⟨44, _⟩ => ⟨S_, .f32⟩
  | .hbm, ⟨45, _⟩ => ⟨S8x1x2048, .f32⟩
  | .hbm, ⟨46, _⟩ => ⟨S8x1x2048, .f32⟩
  | .hbm, ⟨47, _⟩ => ⟨S8x4096x5632, .f32⟩
  | .hbm, ⟨48, _⟩ => ⟨S8x4096x5632, .f32⟩
  | .hbm, ⟨49, _⟩ => ⟨S8x4096x5632, .f32⟩
  | .hbm, ⟨50, _⟩ => ⟨S_, .f32⟩
  | .hbm, ⟨51, _⟩ => ⟨S8x4096x5632, .f32⟩
  | .hbm, ⟨52, _⟩ => ⟨S8x4096x5632, .f32⟩
  | .hbm, ⟨53, _⟩ => ⟨S_, .f32⟩
  | .hbm, ⟨54, _⟩ => ⟨S8x4096x5632, .f32⟩
  | .hbm, ⟨55, _⟩ => ⟨S8x4096x5632, .f32⟩
  | .hbm, ⟨56, _⟩ => ⟨S8x4096x5632, .f32⟩
  | .hbm, ⟨57, _⟩ => ⟨S8x4096x5632, .f32⟩
  | .hbm, ⟨58, _⟩ => ⟨S8x4096x5632, .f32⟩
  | .hbm, ⟨59, _⟩ => ⟨S8x4096x2048, .f32⟩
  | .hbm, ⟨60, _⟩ => ⟨S8x4096x2048, .f32⟩
  | .hbm, ⟨61, _⟩ => ⟨S8x4096x2048, .f32⟩
  | .hbm, ⟨62, _⟩ => ⟨S8x4096x2048, .f32⟩
  | .hbm, ⟨63, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== Proj.lean ====
abbrev S8x4096x2048 : Shape := ⟨3, ![8, 4096, 2048]⟩
abbrev S8x18432 : Shape := ⟨2, ![8, 18432]⟩
abbrev S2048 : Shape := ⟨1, ![2048]⟩
abbrev S2048x4992 : Shape := ⟨2, ![2048, 4992]⟩
abbrev S32768x2048 : Shape := ⟨2, ![32768, 2048]⟩
abbrev S8x9x2048 : Shape := ⟨3, ![8, 9, 2048]⟩
abbrev S1x2048 : Shape := ⟨2, ![1, 2048]⟩
abbrev S32768x4992 : Shape := ⟨2, ![32768, 4992]⟩
abbrev S512x2048 : Shape := ⟨2, ![512, 2048]⟩
abbrev S1x9x2048 : Shape := ⟨3, ![1, 9, 2048]⟩
abbrev S2048x1664 : Shape := ⟨2, ![2048, 1664]⟩
abbrev S512x1664 : Shape := ⟨2, ![512, 1664]⟩
abbrev S1x1x2048 : Shape := ⟨3, ![1, 1, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S8x18432, .f32⟩
  | .hbm, ⟨2, _⟩ => ⟨S2048, .f32⟩
  | .hbm, ⟨3, _⟩ => ⟨S2048x4992, .f32⟩
  | .hbm, ⟨4, _⟩ => ⟨S32768x2048, .f32⟩
  | .hbm, ⟨5, _⟩ => ⟨S8x9x2048, .f32⟩
  | .hbm, ⟨6, _⟩ => ⟨S2048x4992, .bf16⟩
  | .hbm, ⟨7, _⟩ => ⟨S1x2048, .f32⟩
  | .hbm, ⟨8, _⟩ => ⟨S32768x4992, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x1664, .bf16⟩
  | .local _ .vmem, ⟨6, _⟩ => ⟨S2048x1664, .bf16⟩
  | .local _ .vmem, ⟨7, _⟩ => ⟨S512x1664, .f32⟩
  | .local _ .vmem, ⟨8, _⟩ => ⟨S512x1664, .f32⟩
  | .local _ .vmem, ⟨9, _⟩ => ⟨S512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1664 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjRefIdeal.lean ====
abbrev S8x4096x2048 : Shape := ⟨3, ![8, 4096, 2048]⟩
abbrev S8x18432 : Shape := ⟨2, ![8, 18432]⟩
abbrev S2048 : Shape := ⟨1, ![2048]⟩
abbrev S2048x4992 : Shape := ⟨2, ![2048, 4992]⟩
abbrev S8x2048 : Shape := ⟨2, ![8, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S8x4096x4992 : Shape := ⟨3, ![8, 4096, 4992]⟩
abbrev S32768x4992 : Shape := ⟨2, ![32768, 4992]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x18432, .f32⟩
  | .hbm, ⟨2, _⟩ => ⟨S2048, .f32⟩
  | .hbm, ⟨3, _⟩ => ⟨S2048x4992, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x4096x2048, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x2048, .f32⟩
  | .hbm, ⟨25, _⟩ => ⟨S8x4096x2048, .f32⟩
  | .hbm, ⟨26, _⟩ => ⟨S1x1x2048, .f32⟩
  | .hbm, ⟨27, _⟩ => ⟨S8x4096x2048, .f32⟩
  | .hbm, ⟨28, _⟩ => ⟨S8x4096x2048, .f32⟩
  | .hbm, ⟨29, _⟩ => ⟨S8x1x2048, .f32⟩
  | .hbm, ⟨30, _⟩ => ⟨S_, .f32⟩
  | .hbm, ⟨31, _⟩ => ⟨S8x1x2048, .f32⟩
  | .hbm, ⟨32, _⟩ => ⟨S8x1x2048, .f32⟩
  | .hbm, ⟨33, _⟩ => ⟨S8x4096x2048, .f32⟩
  | .hbm, ⟨34, _⟩ => ⟨S8x4096x2048, .f32⟩
  | .hbm, ⟨35, _⟩ => ⟨S8x1x2048, .f32⟩
  | .hbm, ⟨36, _⟩ => ⟨S8x4096x2048, .f32⟩
  | .hbm, ⟨37, _⟩ => ⟨S8x4096x2048, .f32⟩
  | .hbm, ⟨38, _⟩ => ⟨S8x4096x4992, .f32⟩
  | .hbm, ⟨39, _⟩ => ⟨S32768x4992, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Out.lean ====
abbrev S8x4096x2048 : Shape := ⟨3, ![8, 4096, 2048]⟩
abbrev S8x18432 : Shape := ⟨2, ![8, 18432]⟩
abbrev S8x4096x512 : Shape := ⟨3, ![8, 4096, 512]⟩
abbrev S8x4096x1024 : Shape := ⟨3, ![8, 4096, 1024]⟩
abbrev S2048x2048 : Shape := ⟨2, ![2048, 2048]⟩
abbrev S32768x2048 : Shape := ⟨2, ![32768, 2048]⟩
abbrev S8x9x2048 : Shape := ⟨3, ![8, 9, 2048]⟩
abbrev S32768x512 : Shape := ⟨2, ![32768, 512]⟩
abbrev S32768x1024 : Shape := ⟨2, ![32768, 1024]⟩
abbrev S512x2048 : Shape := ⟨2, ![512, 2048]⟩
abbrev S1x9x2048 : Shape := ⟨3, ![1, 9, 2048]⟩
abbrev S512x512 : Shape := ⟨2, ![512, 512]⟩
abbrev S512x1024 : Shape := ⟨2, ![512, 1024]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 13
  | .vmem => 13
  | .smem => 0
  | _ => 0

abbrev bufTy : (tb : Table) → Fin (tcTables nBuf tb) → BufTy
  | .hbm, ⟨0, _⟩ => ⟨S8x4096x2048, .f32⟩
  | .hbm, ⟨1, _⟩ => ⟨S8x18432, .f32⟩
  | .hbm, ⟨2, _⟩ => ⟨S8x4096x512, .bf16⟩
  | .hbm, ⟨3, _⟩ => ⟨S8x4096x1024, .bf16⟩
  | .hbm, ⟨4, _⟩ => ⟨S8x4096x512, .bf16⟩
  | .hbm, ⟨5, _⟩ => ⟨S2048x2048, .f32⟩
  | .hbm, ⟨6, _⟩ => ⟨S32768x2048, .f32⟩
  | .hbm, ⟨7, _⟩ => ⟨S8x9x2048, .f32⟩
  | .hbm, ⟨8, _⟩ => ⟨S32768x512, .bf16⟩
  | .hbm, ⟨9, _⟩ => ⟨S32768x1024, .bf16⟩
  | .hbm, ⟨10, _⟩ => ⟨S32768x512, .bf16⟩
  | .hbm, ⟨11, _⟩ => ⟨S2048x2048, .bf16⟩
  | .hbm, ⟨12, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S8x4096x2048 : Shape := ⟨3, ![8, 4096, 2048]⟩
abbrev S8x18432 : Shape := ⟨2, ![8, 18432]⟩
abbrev S8x4096x512 : Shape := ⟨3, ![8, 4096, 512]⟩
abbrev S8x4096x1024 : Shape := ⟨3, ![8, 4096, 1024]⟩
abbrev S2048x2048 : Shape := ⟨2, ![2048, 2048]⟩
abbrev S8x2048 : Shape := ⟨2, ![8, 2048]⟩
abbrev S8x1x2048 : Shape := ⟨3, ![8, 1, 2048]⟩
abbrev S_ : Shape := ⟨0, ![]⟩
abbrev S32768x2048 : Shape := ⟨2, ![32768, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x18432, .f32⟩
  | .hbm, ⟨2, _⟩ => ⟨S8x4096x512, .bf16⟩
  | .hbm, ⟨3, _⟩ => ⟨S8x4096x1024, .bf16⟩
  | .hbm, ⟨4, _⟩ => ⟨S8x4096x512, .bf16⟩
  | .hbm, ⟨5, _⟩ => ⟨S2048x2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S8x4096x512, .f32⟩
  | .hbm, ⟨16, _⟩ => ⟨S8x4096x1024, .f32⟩
  | .hbm, ⟨17, _⟩ => ⟨S8x4096x512, .f32⟩
  | .hbm, ⟨18, _⟩ => ⟨S8x4096x2048, .f32⟩
  | .hbm, ⟨19, _⟩ => ⟨S8x4096x2048, .f32⟩
  | .hbm, ⟨20, _⟩ => ⟨S8x1x2048, .f32⟩
  | .hbm, ⟨21, _⟩ => ⟨S_, .f32⟩
  | .hbm, ⟨22, _⟩ => ⟨S8x1x2048, .f32⟩
  | .hbm, ⟨23, _⟩ => ⟨S8x1x2048, .f32⟩
  | .hbm, ⟨24, _⟩ => ⟨S8x4096x2048, .f32⟩
  | .hbm, ⟨25, _⟩ => ⟨S8x4096x2048, .f32⟩
  | .hbm, ⟨26, _⟩ => ⟨S8x4096x2048, .f32⟩
  | .hbm, ⟨27, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Sb.lean ====
abbrev S8x4096x512 : Shape := ⟨3, ![8, 4096, 512]⟩
abbrev S8x16x512x256 : Shape := ⟨4, ![8, 16, 512, 256]⟩
abbrev S1x256x128 : Shape := ⟨3, ![1, 256, 128]⟩
abbrev S1x4096x128 : Shape := ⟨3, ![1, 4096, 128]⟩
abbrev S1x16x128x256 : Shape := ⟨4, ![1, 16, 128, 256]⟩
abbrev S1x256 : Shape := ⟨2, ![1, 256]⟩
abbrev S128x256 : Shape := ⟨2, ![128, 256]⟩
abbrev S256x128 : Shape := ⟨2, ![256, 128]⟩
abbrev S256x256 : Shape := ⟨2, ![256, 256]⟩
abbrev S1x1x128x256 : Shape := ⟨4, ![1, 1, 128, 256]⟩
abbrev S256 : Shape := ⟨1, ![256]⟩

abbrev nBuf : Space → Nat
  | .hbm => 4
  | .vmem => 10
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x16x512x256, .bf16⟩
  | .hbm, ⟨3, _⟩ => ⟨S8x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S1x256x128, .bf16⟩
  | .local _ .vmem, ⟨7, _⟩ => ⟨S1x256x128, .bf16⟩
  | .local _ .vmem, ⟨8, _⟩ => ⟨S1x256, .f32⟩
  | .local _ .vmem, ⟨9, _⟩ => ⟨S128x256, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 16], ![false, false, false]⟩

def k0_mult1 (i : grid0.Coords) : BitVec 32 :=
  let arg2 : BitVec 32 := BitVec.ofNat 32 (i 2).val
  let c256_i32 : BitVec 32 := 256#32
  let v17 : BitVec 32 := Scalar.muli arg2 c256_i32
  v17
def k0_off1 (i : grid0.Coords) : Fin 3 → Nat :=
  let c0_9 : Index := 0#32
  let arg2 : BitVec 32 := BitVec.ofNat 32 (i 2).val
  let c256_i32 : BitVec 32 := 256#32
  let v17 : BitVec 32 := Scalar.muli arg2 c256_i32
  let v18 : BitVec 32 := v17
  let v19 : Index := Scalar.indexCast v18
  let c0_10 : Index := 0#32
  ![0, v19.toNat, 0]
def k0_off2 (i : grid0.Coords) : Fin 4 → Nat :=
  let c0_24 : Index := 0#32
  let arg2 : BitVec 32 := BitVec.ofNat 32 (i 2).val
  let v54 : Index := Scalar.indexCast arg2
  let c0_25 : Index := 0#32
  let c0_26 : Index := 0#32
  ![0, v54.toNat, 0, 0]
@[reducible] def k0_t1_loop (i : grid0.Coords) : Scf.Loop 32 :=
  let c0_i32_35 : BitVec 32 := 0#32
  let arg2 : BitVec 32 := BitVec.ofNat 32 (i 2).val
  let v70 : BitVec 32 := Scalar.subi arg2 c0_i32_35
  let c1_i32 : BitVec 32 := 1#32
  let v72 : BitVec 32 := Scalar.divsi v70 c1_i32
  let v73 : BitVec 32 := Scalar.muli v72 c1_i32
  let v74 : BitVec 32 := Scalar.addi c0_i32_35 v73
  let c1_i32_36 : BitVec 32 := 1#32
  ⟨c0_i32_35, v74, c1_i32_36⟩
def k0_mult2 (i : grid0.Coords) (k0_t1 : Fin (k0_t1_loop i).trips) : BitVec 32 :=
  let arg2 : BitVec 32 := BitVec.ofNat 32 (i 2).val
  let c1_i32_43 : BitVec 32 := 1#32
  let v81 : BitVec 32 := Scalar.subi arg2 c1_i32_43
  let c0_i32_35 : BitVec 32 := 0#32
  let c1_i32_36 : BitVec 32 := 1#32
  let arg9 : BitVec 32 := Scf.iv c0_i32_35 c1_i32_36 k0_t1
  let v82 : BitVec 32 := Scalar.subi v81 arg9
  let c256_i32_44 : BitVec 32 := 256#32
  let v83 : BitVec 32 := Scalar.muli v82 c256_i32_44
  v83
def k0_off3 (i : grid0.Coords) (k0_t1 : Fin (k0_t1_loop i).trips) : Fin 3 → Nat :=
  let c0_45 : Index := 0#32
  let arg2 : BitVec 32 := BitVec.ofNat 32 (i 2).val
  let c1_i32_43 : BitVec 32 := 1#32
  let v81 : BitVec 32 := Scalar.subi arg2 c1_i32_43
  let c0_i32_35 : BitVec 32 := 0#32
  let c1_i32_36 : BitVec 32 := 1#32
  let arg9 : BitVec 32 := Scf.iv c0_i32_35 c1_i32_36 k0_t1
  let v82 : BitVec 32 := Scalar.subi v81 arg9
  let c256_i32_44 : BitVec 32 := 256#32
  let v83 : BitVec 32 := Scalar.muli v82 c256_i32_44
  let v84 : BitVec 32 := v83
  let v85 : Index := Scalar.indexCast v84
  let c0_46 : Index := 0#32
  ![0, v85.toNat, 0]
def k0_off4 (i : grid0.Coords) (k0_t1 : Fin (k0_t1_loop i).trips) : Fin 4 → Nat :=
  let c0_58 : Index := 0#32
  let arg2 : BitVec 32 := BitVec.ofNat 32 (i 2).val
  let c1_i32_43 : BitVec 32 := 1#32
  let v81 : BitVec 32 := Scalar.subi arg2 c1_i32_43
  let c0_i32_35 : BitVec 32 := 0#32
  let c1_i32_36 : BitVec 32 := 1#32
  let arg9 : BitVec 32 := Scf.iv c0_i32_35 c1_i32_36 k0_t1
  let v82 : BitVec 32 := Scalar.subi v81 arg9
  let v115 : Index := Scalar.indexCast v82
  let c0_59 : Index := 0#32
  let c0_60 : Index := 0#32
  ![0, v115.toNat, 0, 0]
@[reducible] def k0_t2_loop (i : grid0.Coords) : Scf.Loop 32 :=
  let c0_i32_35 : BitVec 32 := 0#32
  let arg2 : BitVec 32 := BitVec.ofNat 32 (i 2).val
  let v70 : BitVec 32 := Scalar.subi arg2 c0_i32_35
  let c1_i32 : BitVec 32 := 1#32
  let v72 : BitVec 32 := Scalar.divsi v70 c1_i32
  let v73 : BitVec 32 := Scalar.muli v72 c1_i32
  let v74 : BitVec 32 := Scalar.addi c0_i32_35 v73
  let v71 : BitVec 32 := Scalar.addi c0_i32_35 v70
  let c1_i32_37 : BitVec 32 := 1#32
  ⟨v74, v71, c1_i32_37⟩
def k0_mult3 (i : grid0.Coords) (k0_t2 : Fin (k0_t2_loop i).trips) : BitVec 32 :=
  let arg2 : BitVec 32 := BitVec.ofNat 32 (i 2).val
  let c1_i32_43 : BitVec 32 := 1#32
  let v81 : BitVec 32 := Scalar.subi arg2 c1_i32_43
  let c0_i32_35 : BitVec 32 := 0#32
  let v70 : BitVec 32 := Scalar.subi arg2 c0_i32_35
  let c1_i32 : BitVec 32 := 1#32
  let v72 : BitVec 32 := Scalar.divsi v70 c1_i32
  let v73 : BitVec 32 := Scalar.muli v72 c1_i32
  let v74 : BitVec 32 := Scalar.addi c0_i32_35 v73
  let c1_i32_37 : BitVec 32 := 1#32
  let arg9 : BitVec 32 := Scf.iv v74 c1_i32_37 k0_t2
  let v82 : BitVec 32 := Scalar.subi v81 arg9
  let c256_i32_44 : BitVec 32 := 256#32
  let v83 : BitVec 32 := Scalar.muli v82 c256_i32_44
  v83
def k0_off5 (i : grid0.Coords) (k0_t2 : Fin (k0_t2_loop i).trips) : Fin 3 → Nat :=
  let c0_45 : Index := 0#32
  let arg2 : BitVec 32 := BitVec.ofNat 32 (i 2).val
  let c1_i32_43 : BitVec 32 := 1#32
  let v81 : BitVec 32 := Scalar.subi arg2 c1_i32_43
  let c0_i32_35 : BitVec 32 := 0#32
  let v70 : BitVec 32 := Scalar.subi arg2 c0_i32_35
  let c1_i32 : BitVec 32 := 1#32
  let v72 : BitVec 32 := Scalar.divsi v70 c1_i32
  let v73 : BitVec 32 := Scalar.muli v72 c1_i32
  let v74 : BitVec 32 := Scalar.addi c0_i32_35 v73
  let c1_i32_37 : BitVec 32 := 1#32
  let arg9 : BitVec 32 := Scf.iv v74 c1_i32_37 k0_t2
  let v82 : BitVec 32 := Scalar.subi v81 arg9
  let c256_i32_44 : BitVec 32 := 256#32
  let v83 : BitVec 32 := Scalar.muli v82 c256_i32_44
  let v84 : BitVec 32 := v83
  let v85 : Index := Scalar.indexCast v84
  let c0_46 : Index := 0#32
  ![0, v85.toNat, 0]
def k0_off6 (i : grid0.Coords) (k0_t2 : Fin (k0_t2_loop i).trips) : Fin 4 → Nat :=
  let c0_58 : Index := 0#32
  let arg2 : BitVec 32 := BitVec.ofNat 32 (i 2).val
  let c1_i32_43 : BitVec 32 := 1#32
  let v81 : BitVec 32 := Scalar.subi arg2 c1_i32_43
  let c0_i32_35 : BitVec 32 := 0#32
  let v70 : BitVec 32 := Scalar.subi arg2 c0_i32_35
  let c1_i32 : BitVec 32 := 1#32
  let v72 : BitVec 32 := Scalar.divsi v70 c1_i32
  let v73 : BitVec 32 := Scalar.muli v72 c1_i32
  let v74 : BitVec 32 := Scalar.addi c0_i32_35 v73
  let c1_i32_37 : BitVec 32 := 1#32
  let arg9 : BitVec 32 := Scf.iv v74 c1_i32_37 k0_t2
  let v82 : BitVec 32 := Scalar.subi v81 arg9
  let v115 : Index := Scalar.indexCast v82
  let c0_59 : Index := 0#32
  let c0_60 : Index := 0#32
  ![0, v115.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbRefIdeal.lean ====
abbrev S8x4096x512 : Shape := ⟨3, ![8, 4096, 512]⟩
abbrev S8x16x512x256 : Shape := ⟨4, ![8, 16, 512, 256]⟩
abbrev S8x4096x4x128 : Shape := ⟨4, ![8, 4096, 4, 128]⟩
abbrev S8x16x256x512 : Shape := ⟨4, ![8, 16, 256, 512]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x4096x4096 : Shape := ⟨4, ![8, 4, 4096, 4096]⟩
abbrev S_ : Shape := ⟨0, ![]⟩
abbrev S8x4x128x4096 : Shape := ⟨4, ![8, 4, 128, 4096]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x16x512x256, .bf16⟩
  | .hbm, ⟨3, _⟩ => ⟨S8x4096x512, .f32⟩
  | .hbm, ⟨4, _⟩ => ⟨S8x4096x4x128, .f32⟩
  | .hbm, ⟨5, _⟩ => ⟨S8x4096x512, .f32⟩
  | .hbm, ⟨6, _⟩ => ⟨S8x4096x4x128, .f32⟩
  | .hbm, ⟨7, _⟩ => ⟨S8x16x512x256, .f32⟩
  | .hbm, ⟨8, _⟩ => ⟨S8x16x256x512, .f32⟩
  | .hbm, ⟨9, _⟩ => ⟨S8x4096x4x128, .f32⟩
  | .hbm, ⟨10, _⟩ => ⟨S4096, .i32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S8x4x4096x4096, .f32⟩
  | .hbm, ⟨17, _⟩ => ⟨S8x4x4096x4096, .f32⟩
  | .hbm, ⟨18, _⟩ => ⟨S8x4x4096x4096, .f32⟩
  | .hbm, ⟨19, _⟩ => ⟨S_, .f32⟩
  | .hbm, ⟨20, _⟩ => ⟨S8x4x4096x4096, .f32⟩
  | .hbm, ⟨21, _⟩ => ⟨S8x4x4096x4096, .f32⟩
  | .hbm, ⟨22, _⟩ => ⟨S8x4x4096x4096, .f32⟩
  | .hbm, ⟨23, _⟩ => ⟨S8x4x4096x4096, .f32⟩
  | .hbm, ⟨24, _⟩ => ⟨S8x4x4096x4096, .i1⟩
  | .hbm, ⟨25, _⟩ => ⟨S8x4x4096x4096, .f32⟩
  | .hbm, ⟨26, _⟩ => ⟨S8x4x4096x4096, .f32⟩
  | .hbm, ⟨27, _⟩ => ⟨S8x4x4096x4096, .f32⟩
  | .hbm, ⟨28, _⟩ => ⟨S8x4x4096x4096, .f32⟩
  | .hbm, ⟨29, _⟩ => ⟨S8x4x4096x4096, .f32⟩
  | .hbm, ⟨30, _⟩ => ⟨S8x4x4096x4096, .f32⟩
  | .hbm, ⟨31, _⟩ => ⟨S8x4x4096x4096, .f32⟩
  | .hbm, ⟨32, _⟩ => ⟨S8x4x4096x4096, .f32⟩
  | .hbm, ⟨33, _⟩ => ⟨S8x4x4096x4096, .f32⟩
  | .hbm, ⟨34, _⟩ => ⟨S_, .f32⟩
  | .hbm, ⟨35, _⟩ => ⟨S_, .f32⟩
  | .hbm, ⟨36, _⟩ => ⟨S8x4x4096x4096, .i1⟩
  | .hbm, ⟨37, _⟩ => ⟨S8x4x4096x4096, .f32⟩
  | .hbm, ⟨38, _⟩ => ⟨S8x4x4096x4096, .f32⟩
  | .hbm, ⟨39, _⟩ => ⟨S_, .f32⟩
  | .hbm, ⟨40, _⟩ => ⟨S_, .f32⟩
  | .hbm, ⟨41, _⟩ => ⟨S8x4x4096x4096, .f32⟩
  | .hbm, ⟨42, _⟩ => ⟨S8x4x4096x4096, .f32⟩
  | .hbm, ⟨43, _⟩ => ⟨S8x4x4096x4096, .f32⟩
  | .hbm, ⟨44, _⟩ => ⟨S_, .f32⟩
  | .hbm, ⟨45, _⟩ => ⟨S8x4x4096x4096, .f32⟩
  | .hbm, ⟨46, _⟩ => ⟨S8x4x4096x4096, .f32⟩
  | .hbm, ⟨47, _⟩ => ⟨S8x4x4096x4096, .f32⟩
  | .hbm, ⟨48, _⟩ => ⟨S8x4x4096x4096, .f32⟩
  | .hbm, ⟨49, _⟩ => ⟨S8x4x4096x4096, .i1⟩
  | .hbm, ⟨50, _⟩ => ⟨S8x4x4096x4096, .f32⟩
  | .hbm, ⟨51, _⟩ => ⟨S8x4x4096x4096, .f32⟩
  | .hbm, ⟨52, _⟩ => ⟨S8x4x4096x4096, .f32⟩
  | .hbm, ⟨53, _⟩ => ⟨S8x4x4096x4096, .f32⟩
  | .hbm, ⟨54, _⟩ => ⟨S8x4x4096x4096, .f32⟩
  | .hbm, ⟨55, _⟩ => ⟨S8x4x4096x4096, .f32⟩
  | .hbm, ⟨56, _⟩ => ⟨S8x4x4096x4096, .f32⟩
  | .hbm, ⟨57, _⟩ => ⟨S8x4x4096x4096, .f32⟩
  | .hbm, ⟨58, _⟩ => ⟨S8x4x4096x4096, .f32⟩
  | .hbm, ⟨59, _⟩ => ⟨S8x4x4096x4096, .f32⟩
  | .hbm, ⟨60, _⟩ => ⟨S8x4x4096x4096, .f32⟩
  | .hbm, ⟨61, _⟩ => ⟨S_, .f32⟩
  | .hbm, ⟨62, _⟩ => ⟨S_, .f32⟩
  | .hbm, ⟨63, _⟩ => ⟨S8x4x4096x4096, .i1⟩
  | .hbm, ⟨64, _⟩ => ⟨S8x4x4096x4096, .f32⟩
  | .hbm, ⟨65, _⟩ => ⟨S8x4x4096x4096, .f32⟩
  | .hbm, ⟨66, _⟩ => ⟨S8x4x128x4096, .f32⟩
  | .hbm, ⟨67, _⟩ => ⟨S8x4096x4x128, .f32⟩
  | .hbm, ⟨68, _⟩ => ⟨S8x4096x512, .f32⟩
  | .hbm, ⟨69, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v15 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_call3_v0 : Ref sig .tc := ⟨.hbm, 43, rfl⟩
abbrev main_call3_call0_cst : Ref sig .tc := ⟨.hbm, 44, rfl⟩
abbrev main_call3_call0_v0 : Ref sig .tc := ⟨.hbm, 45, rfl⟩
abbrev main_call3_call0_v1 : Ref sig .tc := ⟨.hbm, 46, rfl⟩
abbrev main_call3_call0_v2 : Ref sig .tc := ⟨.hbm, 47, rfl⟩
abbrev main_call3_call0_v3 : Ref sig .tc := ⟨.hbm, 48, rfl⟩
abbrev main_call3_call0_v4 : Ref sig .tc := ⟨.hbm, 49, rfl⟩
abbrev main_call3_call0_v5 : Ref sig .tc := ⟨.hbm, 50, rfl⟩
abbrev main_call3_call0_v6 : Ref sig .tc := ⟨.hbm, 51, rfl⟩
abbrev main_call3_call0_v7 : Ref sig .tc := ⟨.hbm, 52, rfl⟩
abbrev main_call3_call0_v8 : Ref sig .tc := ⟨.hbm, 53, rfl⟩
abbrev main_call3_call0_v9 : Ref sig .tc := ⟨.hbm, 54, rfl⟩
abbrev main_call3_call0_v10 : Ref sig .tc := ⟨.hbm, 55, rfl⟩
abbrev main_call3_call0_v11 : Ref sig .tc := ⟨.hbm, 56, rfl⟩
abbrev main_call3_v1 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_0 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩

abbrev nD : Nat := 1
abbrev τ : Topo := Topo.v7x

variable {F : FTy → Type} [FloatOps F]
-- ==== Ada.lean ====
abbrev S8x2048 : Shape := ⟨2, ![8, 2048]⟩
abbrev S2x2048x18432 : Shape := ⟨3, ![2, 2048, 18432]⟩
abbrev S2x18432 : Shape := ⟨2, ![2, 18432]⟩
abbrev S2x1x18432 : Shape := ⟨3, ![2, 1, 18432]⟩
abbrev S2x8x18432 : Shape := ⟨3, ![2, 8, 18432]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x18432, .f32⟩
  | .hbm, ⟨2, _⟩ => ⟨S2x18432, .f32⟩
  | .hbm, ⟨3, _⟩ => ⟨S2x1x18432, .f32⟩
  | .hbm, ⟨4, _⟩ => ⟨S2x8x18432, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x2048 : Shape := ⟨2, ![8, 2048]⟩
abbrev S2x2048x18432 : Shape := ⟨3, ![2, 2048, 18432]⟩
abbrev S2x18432 : Shape := ⟨2, ![2, 18432]⟩
abbrev S_ : Shape := ⟨0, ![]⟩
abbrev S2x18432x8 : Shape := ⟨3, ![2, 18432, 8]⟩
abbrev S2x8x18432 : Shape := ⟨3, ![2, 8, 18432]⟩
abbrev S2x1x18432 : Shape := ⟨3, ![2, 1, 18432]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x18432, .f32⟩
  | .hbm, ⟨2, _⟩ => ⟨S2x18432, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2x18432x8, .f32⟩
  | .hbm, ⟨13, _⟩ => ⟨S2x8x18432, .f32⟩
  | .hbm, ⟨14, _⟩ => ⟨S2x1x18432, .f32⟩
  | .hbm, ⟨15, _⟩ => ⟨S2x8x18432, .f32⟩
  | .hbm, ⟨16, _⟩ => ⟨S2x8x18432, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.MlaRun.lean ====
module

public import proofs.«01_k».proof.Proof.Gen.MlaIdeal.Value
public import Idealize.ShloMosaic.Lib.Pointwise
public import Idealize.ShloMosaic.Lib.ValueIdx
public import Idealize.ShloMosaic.Lib.Claim
public import Idealize.ShloMosaic.Lib.VecWindow
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.MlaIdeal.Hand

open Cert.MlaIdeal Cert.MlaIdeal.Gen Idealize.ShloMosaic Idealize.ShloMosaic.TcCoe Idealize.SL.Sem
open Idealize.ShloMosaic.Pipeline (Dat)

/-- The 256 keys of block `n`, cut from a head's 4096 keys. -/
def keys (x1 : Vec Ideal S1x4096x256 .bf16) (n : ℕ) : Vec Ideal S1x256x256 .bf16 :=
  fun y => x1 (ix3 0 ⟨(256 * n + (y 1).val) % 4096, Nat.mod_lt _ (by omega)⟩ (y 2))

/-- The values of key block `n`, cut from a head's sixteen blocks of values. -/
def vals (x2 : Vec Ideal S1x16x128x256 .bf16) (n : ℕ) : Vec Ideal S1x1x128x256 .bf16 :=
  fun y => x2 (ix4 0 ⟨n % 16, Nat.mod_lt _ (by omega)⟩ (y 2) (y 3))

/-- A load of 256 rows of the keys at row `256 n` reads block `n`. -/
theorem read_keys {κ : Kind} {sp : Space} (arg4 : Memref sig κ sp S1x4096x256 .bf16) (harg4 : arg4.IsWhole)
    (x1 : Vec Ideal S1x4096x256 .bf16) (n : ℕ) (hn : n < 16) {off : Fin 3 → ℕ}
    (inb : ∀ a, off a + S1x256x256.size a ≤ S1x4096x256.size a) (h : off = ![0, 256 * n, 0]) :
    View.readAt (Elt Ideal) arg4.view (Rect.unit (s := S1x4096x256) off S1x256x256.size inb).toLoadRect (harg4.unread x1) = keys x1 n := by
  subst h
  rw [View.readAt_eq_ld, harg4.read_unread]
  funext y
  unfold keys
  show x1 _ = x1 _
  congr 1
  funext a
  apply Fin.ext
  have h1 : (y 1).val < 256 := (y 1).isLt
  match a with
  | ⟨0, _⟩ => show 0 + 1 * (y 0).val = 0; have : (y 0).val < 1 := (y 0).isLt; omega
  | ⟨1, _⟩ => show 256 * n + 1 * (y 1).val = (256 * n + (y 1).val) % 4096; omega
  | ⟨2, _⟩ => show 0 + 1 * (y 2).val = (y 2).val; omega

/-- A load of one block of the values at block `n` reads it. -/
theorem read_vals {κ : Kind} {sp : Space} (arg5 : Memref sig κ sp S1x16x128x256 .bf16) (harg5 : arg5.IsWhole)
    (x2 : Vec Ideal S1x16x128x256 .bf16) (n : ℕ) (hn : n < 16) {off : Fin 4 → ℕ}
    (inb : ∀ a, off a + S1x1x128x256.size a ≤ S1x16x128x256.size a) (h : off = ![0, n, 0, 0]) :
    View.readAt (Elt Ideal) arg5.view (Rect.unit (s := S1x16x128x256) off S1x1x128x256.size inb).toLoadRect (harg5.unread x2) = vals x2 n := by
  subst h
  rw [View.readAt_eq_ld, harg5.read_unread]
  funext y
  unfold vals
  show x2 _ = x2 _
  congr 1
  funext a
  apply Fin.ext
  have h1 : (y 1).val < 1 := (y 1).isLt
  match a with
  | ⟨0, _⟩ => show 0 + 1 * (y 0).val = 0; have : (y 0).val < 1 := (y 0).isLt; omega
  | ⟨1, _⟩ => show n + 1 * (y 1).val = n % 16; omega
  | ⟨2, _⟩ => show 0 + 1 * (y 2).val = (y 2).val; omega
  | ⟨3, _⟩ => show 0 + 1 * (y 3).val = (y 3).val; omega

/-- The running maximum, sum and weighted values after `n` full key blocks. -/
def carry (x0 : Vec Ideal S1x256x256 .bf16) (x1 : Vec Ideal S1x4096x256 .bf16) (x2 : Vec Ideal S1x16x128x256 .bf16) :
    ℕ → Vec Ideal S1x256 .f32 × Vec Ideal S1x256 .f32 × Vec Ideal S128x256 .f32
  | 0 => (k0_pay15 (F := Ideal), k0_pay16 (F := Ideal), k0_pay17 (F := Ideal))
  | n + 1 =>
    (k0_pay18 (k0_pay3 (k0_pay14 x0) (keys x1 n) (carry x0 x1 x2 n).1),
      k0_pay6 (k0_pay14 x0) (keys x1 n) (carry x0 x1 x2 n).1 (carry x0 x1 x2 n).2.1,
      k0_pay7 (k0_pay14 x0) (keys x1 n) (carry x0 x1 x2 n).1 (carry x0 x1 x2 n).2.2 (vals x2 n))

/-- One trip of the loop over the full key blocks: what it stores into the three scratch buffers. -/
theorem trip_stores (𝒱 : Variants) (c : Dev nD) (bd : Option 𝒱.V) (i : grid0.Coords)
    (arg3 : Memref sig .tc .vmem S1x256x256 .bf16) (harg3 : arg3.IsWhole)
    (arg4 : Memref sig .tc .vmem S1x4096x256 .bf16) (harg4 : arg4.IsWhole)
    (arg5 : Memref sig .tc .vmem S1x16x128x256 .bf16) (harg5 : arg5.IsWhole)
    (arg6 : Memref sig .tc .vmem S1x256x128 .bf16) (harg6 : arg6.IsWhole)
    (arg7 : Memref sig .tc .vmem S1x256 .f32) (harg7 : arg7.IsWhole)
    (arg8 : Memref sig .tc .vmem S1x256 .f32) (harg8 : arg8.IsWhole)
    (arg9 : Memref sig .tc .vmem S128x256 .f32) (harg9 : arg9.IsWhole)
    (x0 : Vec Ideal S1x256x256 .bf16) (x1 : Vec Ideal S1x4096x256 .bf16) (x2 : Vec Ideal S1x16x128x256 .bf16)
    (k : Fin (k0_t1_loop i).trips)
    (f7 : BufTy.Contents (Elt Ideal) arg7.view.ty) (f8 : BufTy.Contents (Elt Ideal) arg8.view.ty)
    (f9 : BufTy.Contents (Elt Ideal) arg9.view.ty) :
    tripL_k0_t1 𝒱 c bd i arg3 harg3 arg4 harg4 arg5 harg5 arg6 harg6 arg7 harg7 arg8 harg8 arg9 harg9 x0
        (harg4.unread x1) (harg5.unread x2) k f7 f8 f9
      = ([⟨Rect.unit ![0, 0] S1x256.size inb_S1x256_S1x256_0_0,
            k0_pay18 (k0_pay3 (k0_pay14 x0) (keys x1 k.val) (arg7.view.read (Elt Ideal) f7))⟩],
          [⟨Rect.unit ![0, 0] S1x256.size inb_S1x256_S1x256_0_0,
            k0_pay6 (k0_pay14 x0) (keys x1 k.val) (arg7.view.read (Elt Ideal) f7) (arg8.view.read (Elt Ideal) f8)⟩],
          [⟨Rect.unit ![0, 0] S128x256.size inb_S128x256_S128x256_0_0,
            k0_pay7 (k0_pay14 x0) (keys x1 k.val) (arg7.view.read (Elt Ideal) f7) (arg9.view.read (Elt Ideal) f9)
              (vals x2 k.val)⟩]) := by
  have hk : k.val < 16 := lt_of_lt_of_le k.isLt (le_trans (k0_t1_abs i).2.1 (by omega))
  have e1 := read_keys arg4 harg4 x1 k.val hk (k0_off1_inb i k) (k0_off1_eq i k)
  have e2 := read_vals arg5 harg5 x2 k.val hk (k0_off2_inb i k) (k0_off2_eq i k)
  have e7 := View.readAt_full arg7.view f7 (off := ![0, 0]) inb_S1x256_S1x256_0_0
  have e8 := View.readAt_full arg8.view f8 (off := ![0, 0]) inb_S1x256_S1x256_0_0
  have e9 := View.readAt_full arg9.view f9 (off := ![0, 0]) inb_S128x256_S128x256_0_0
  rw [← e1, ← e2, ← e7, ← e8, ← e9]
  unfold tripL_k0_t1 trip_k0_t1
  rfl

/-- After `n` trips the three scratch buffers hold the running state after `n` key blocks. -/
theorem loop_state (𝒱 : Variants) (c : Dev nD) (bd : Option 𝒱.V) (i : grid0.Coords)
    (arg3 : Memref sig .tc .vmem S1x256x256 .bf16) (harg3 : arg3.IsWhole)
    (arg4 : Memref sig .tc .vmem S1x4096x256 .bf16) (harg4 : arg4.IsWhole)
    (arg5 : Memref sig .tc .vmem S1x16x128x256 .bf16) (harg5 : arg5.IsWhole)
    (arg6 : Memref sig .tc .vmem S1x256x128 .bf16) (harg6 : arg6.IsWhole)
    (arg7 : Memref sig .tc .vmem S1x256 .f32) (harg7 : arg7.IsWhole)
    (arg8 : Memref sig .tc .vmem S1x256 .f32) (harg8 : arg8.IsWhole)
    (arg9 : Memref sig .tc .vmem S128x256 .f32) (harg9 : arg9.IsWhole)
    (x0 : Vec Ideal S1x256x256 .bf16) (x1 : Vec Ideal S1x4096x256 .bf16) (x2 : Vec Ideal S1x16x128x256 .bf16)
    (G7 : BufTy.Contents (Elt Ideal) arg7.view.ty) (G8 : BufTy.Contents (Elt Ideal) arg8.view.ty)
    (G9 : BufTy.Contents (Elt Ideal) arg9.view.ty) (h7 : arg7.view.read (Elt Ideal) G7 = k0_pay15 (F := Ideal))
    (h8 : arg8.view.read (Elt Ideal) G8 = k0_pay16 (F := Ideal)) (h9 : arg9.view.read (Elt Ideal) G9 = k0_pay17 (F := Ideal))
    (n : ℕ) (hn : n ≤ (k0_t1_loop i).trips) :
    let P := pb_k0_t1 𝒱 c bd i arg3 harg3 arg4 harg4 arg5 harg5 arg6 harg6 arg7 harg7 arg8 harg8 arg9 harg9 x0
        (harg4.unread x1) (harg5.unread x2) G7 G8 G9 n
    arg7.view.read (Elt Ideal) (arg7.view.writes (Elt Ideal) G7 P.1) = (carry x0 x1 x2 n).1
      ∧ arg8.view.read (Elt Ideal) (arg8.view.writes (Elt Ideal) G8 P.2.1) = (carry x0 x1 x2 n).2.1
      ∧ arg9.view.read (Elt Ideal) (arg9.view.writes (Elt Ideal) G9 P.2.2) = (carry x0 x1 x2 n).2.2 := by
  induction n with
  | zero => exact ⟨h7, h8, h9⟩
  | succ n ih =>
    obtain ⟨i7, i8, i9⟩ := ih (by omega)
    have hs := pb_k0_t1_succ 𝒱 c bd i arg3 harg3 arg4 harg4 arg5 harg5 arg6 harg6 arg7 harg7 arg8 harg8 arg9 harg9 x0
        (harg4.unread x1) (harg5.unread x2) G7 G8 G9 ⟨n, hn⟩
    rw [trip_stores, i7, i8, i9] at hs
    intro P
    have hP : P = _ := hs
    rw [hP]
    refine ⟨?_, ?_, ?_⟩
    · exact View.read_writes_full _ _ _ _ _
    · exact View.read_writes_full _ _ _ _ _
    · exact View.read_writes_full _ _ _ _ _

variable (m : (ℓ : Loc nD τ sig) → Buf (Elt Ideal) ℓ)

/-- A load of a whole buffer after no stores of one loop and two earlier runs of stores reads what the later run leaves over the earlier one. -/
theorem readCov_append {κ : Kind} {sp : Space} {s : Shape} {e : EltTy} (v : View sig κ sp s e) (L₀ L L' : List (View.Piece (Elt Ideal) s e))
    (h : L₀ = []) {off : Fin s.rank → ℕ} (inb : ∀ a, off a + s.size a ≤ s.size a) :
    v.readCov (L₀ ++ (L ++ L')) (Rect.unit off s.size inb).toLoadRect
      = v.read (Elt Ideal) (v.writes (Elt Ideal) (v.writes (Elt Ideal) v.junk L') L) := by
  subst h
  show v.readAt (Elt Ideal) _ (v.writes (Elt Ideal) v.junk (L ++ L')) = _
  rw [View.readAt_full, View.writes_append]

/-- The key blocks before the query block number its own block. -/
theorem trips1 (i : grid0.Coords) : Scf.trips (k0_t1_loop i).lb (k0_t1_loop i).ub (k0_t1_loop i).st = (i 2).val := by
  revert i
  decide +kernel

/-- The loop's remainder has no trips. -/
theorem trips2 (i : grid0.Coords) : Scf.trips (k0_t2_loop i).lb (k0_t2_loop i).ub (k0_t2_loop i).st = 0 :=
  Nat.le_zero.1 (k0_t2_abs i).2.1

/-- The output block: the state after the full key blocks `n`, the masked block, then the quotient. -/
def done (x0 : Vec Ideal S1x256x256 .bf16) (x1 : Vec Ideal S1x4096x256 .bf16) (x2 : Vec Ideal S1x16x128x256 .bf16)
    (n : ℕ) : Vec Ideal S1x256x128 .bf16 :=
  k0_pay1
    (k0_pay27 (k0_pay20 x0 (keys x1 n)) k0_pay21 (iota .tc S256x256 32 [1] iota_S256x256_d1_w32) 6#32 (carry x0 x1 x2 n).1
      (carry x0 x1 x2 n).2.2 (vals x2 n))
    (k0_pay26 (k0_pay20 x0 (keys x1 n)) k0_pay21 (iota .tc S256x256 32 [1] iota_S256x256_d1_w32) 6#32 (carry x0 x1 x2 n).1
      (carry x0 x1 x2 n).2.1)

variable (m : (ℓ : Loc nD τ sig) → Buf (Elt Ideal) ℓ)

/-- What a point stores into its output block: the state after the full key blocks, the masked block, the quotient. -/
theorem outs_eq (c : Dev nD) (t : Fin cfg0.N) :
    outsAt0 m c t = done (iblk m c 0 t) (iblk m c 1 t) (iblk m c 2 t) (grid0.coords t 2).val := by
  have hn : (grid0.coords t 2).val < 16 := (grid0.coords t 2).isLt
  have e0 : View.readAt (Elt Ideal) (ms0_0 t).view (Rect.unit ![0, 0, 0] S1x256x256.size inb_S1x256x256_S1x256x256_0_0_0).toLoadRect
      ((hs0_0 t).unread (iblk m c 0 t)) = iblk m c 0 t := by
    rw [View.readAt_full, (hs0_0 t).read_unread]
  have e1 := read_keys (ms0_1 t) (hs0_1 t) (iblk m c 1 t) _ hn (k0_off5_inb _) (k0_off5_eq (grid0.coords t))
  have e2 := read_vals (ms0_2 t) (hs0_2 t) (iblk m c 2 t) _ hn (k0_off6_inb _) (k0_off6_eq (grid0.coords t))
  have L := loop_state Variants.none c none (grid0.coords t) (ms0_0 t) (hs0_0 t) (ms0_1 t) (hs0_1 t) (ms0_2 t) (hs0_2 t)
    (ms0_3 t) (hs0_3 t) scM0_0 (Memref.isWhole_whole _) scM0_1 (Memref.isWhole_whole _) scM0_2 (Memref.isWhole_whole _) (iblk m c 0 t) (iblk m c 1 t) (iblk m c 2 t)
    (scM0_0.view.writes (Elt Ideal) scM0_0.view.junk [⟨Rect.unit ![0, 0] S1x256.size inb_S1x256_S1x256_0_0, k0_pay15 (F := Ideal)⟩])
    (scM0_1.view.writes (Elt Ideal) scM0_1.view.junk [⟨Rect.unit ![0, 0] S1x256.size inb_S1x256_S1x256_0_0, k0_pay16 (F := Ideal)⟩])
    (scM0_2.view.writes (Elt Ideal) scM0_2.view.junk [⟨Rect.unit ![0, 0] S128x256.size inb_S128x256_S128x256_0_0, k0_pay17 (F := Ideal)⟩])
    (View.read_writes_full _ _ _ _ _) (View.read_writes_full _ _ _ _ _) (View.read_writes_full _ _ _ _ _)
    (grid0.coords t 2).val (le_of_eq (trips1 _).symm)
  obtain ⟨L7, L8, L9⟩ := L
  have hr : kernelRun0_A.sl.r c (grid0.coords t) (ms0_0 t) (hs0_0 t) (ms0_1 t) (hs0_1 t) (iblk m c 0 t) (iblk m c 1 t)
      = k0_pay20 (iblk m c 0 t) (keys (iblk m c 1 t) (grid0.coords t 2).val) := by
    rw [← e1]
    exact congrArg (fun a => k0_pay20 a _) e0
  have h34 : kernelRun0_A.sl.v34 c (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      (iblk m c 0 t) (iblk m c 1 t) (iblk m c 2 t) = (carry (iblk m c 0 t) (iblk m c 1 t) (iblk m c 2 t) (grid0.coords t 2).val).1 := by
    sl_unfold_words
    rw [trips2, trips1, e0]
    exact (readCov_append _ _ _ _ rfl _).trans L7
  have h43 : kernelRun0_A.sl.v43 c (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      (iblk m c 0 t) (iblk m c 1 t) (iblk m c 2 t) = (carry (iblk m c 0 t) (iblk m c 1 t) (iblk m c 2 t) (grid0.coords t 2).val).2.1 := by
    sl_unfold_words
    rw [trips2, trips1, e0]
    exact (readCov_append _ _ _ _ rfl _).trans L8
  have h51 : kernelRun0_A.sl.v51 c (grid0.coords t) (ms0_0 t) (hs0_0 t) (ms0_1 t) (hs0_1 t) (ms0_2 t) (hs0_2 t)
      (ms0_3 t) (hs0_3 t) scM0_0 (Memref.isWhole_whole _) scM0_1 (Memref.isWhole_whole _) scM0_2 (Memref.isWhole_whole _)
      (iblk m c 0 t) (iblk m c 1 t) (iblk m c 2 t) = (carry (iblk m c 0 t) (iblk m c 1 t) (iblk m c 2 t) (grid0.coords t 2).val).2.2 := by
    sl_unfold_words
    rw [trips2, trips1, e0]
    exact (readCov_append _ _ _ _ rfl _).trans L9
  unfold outsAt0 out0_A_3
  unfold kernelRun0_A
  dsimp only
  rw [View.read_writes_full]
  refine congrArg₂ k0_pay1 ?_ ?_
  · unfold kernelRun0_A.sl.v66
    unfold kernelRun0_A.sl.HS2_1_1
    refine (View.readCov_full (s := S128x256) _ _ _ _ _).trans ?_
    rw [hr, h34, h51, e2]
    rfl
  · unfold kernelRun0_A.sl.v67
    unfold kernelRun0_A.sl.HS1_1_1
    refine (View.readCov_full (s := S1x256) _ _ _ _ _).trans ?_
    rw [hr, h34, h43]
    rfl

end Cert.MlaIdeal.Hand
end
-- ==== Proof.Softmax.lean ====
module

public import Idealize.ShloMosaic.PureOps.Ideal

@[expose] public section

noncomputable section

namespace Cert.Softmax

open Idealize.ShloMosaic

variable (s v : ℕ → EReal)

/-- The largest of the first `n` scores. -/
def top (n : ℕ) : EReal := (Finset.range n).sup s
/-- The first `n` scores' exponentials, taken off their maximum, summed. -/
def den (n : ℕ) : EReal := ∑ k ∈ Finset.range n, Ideal.exp (s k - top s n)
/-- The first `n` values, each times its score's exponential, summed. -/
def num (n : ℕ) : EReal := ∑ k ∈ Finset.range n, v k * Ideal.exp (s k - top s n)

/-- A maximum over more scores is no smaller. -/
theorem top_mono {n n' : ℕ} (h : n ≤ n') : top s n ≤ top s n' :=
  Finset.sup_mono (Finset.range_mono h)

/-- Scores that are never `⊤`, the first a number, have a number for their maximum. -/
theorem top_real (hs : ∀ k, s k ≠ ⊤) (h0 : s 0 ≠ ⊥) {n : ℕ} (hn : 0 < n) : ∃ r : ℝ, top s n = r := by
  have hb : top s n ≠ ⊥ := fun h => h0 (le_bot_iff.1 (h ▸ Finset.le_sup (Finset.mem_range.2 hn)))
  have ht : top s n ≠ ⊤ := by
    refine ne_of_lt ?_
    unfold top
    rw [Finset.sup_lt_iff (by simp)]
    exact fun k _ => lt_of_le_of_ne le_top (hs k)
  exact ⟨(top s n).toReal, (EReal.coe_toReal ht hb).symm⟩

/-- An exponential is not negative. -/
theorem exp_nonneg (x : EReal) : 0 ≤ Ideal.exp x := by
  induction x with
  | bot => simp
  | top => simp
  | coe r => rw [Ideal.exp_coe]; exact_mod_cast (Real.exp_pos r).le

/-- The exponential of a score less a number is a number. -/
theorem exp_real {x : EReal} (hx : x ≠ ⊤) (r : ℝ) : ∃ z : ℝ, 0 ≤ z ∧ Ideal.exp (x - r) = z := by
  induction x with
  | bot => exact ⟨0, le_rfl, by simp⟩
  | top => exact absurd rfl hx
  | coe a => exact ⟨Real.exp (a - r), (Real.exp_pos _).le, by rw [← EReal.coe_sub, Ideal.exp_coe]⟩

/-- A score's exponential off one maximum, rescaled to another. -/
theorem rescale {x : EReal} (hx : x ≠ ⊤) (a b : ℝ) :
    Ideal.exp ((a : EReal) - b) * Ideal.exp (x - a) = Ideal.exp (x - b) := by
  induction x with
  | bot => simp
  | top => exact absurd rfl hx
  | coe r =>
    rw [← EReal.coe_sub, ← EReal.coe_sub, ← EReal.coe_sub, Ideal.exp_coe, Ideal.exp_coe, Ideal.exp_coe, ← EReal.coe_mul,
      ← Real.exp_add]
    congr 2
    ring

/-- A nonnegative number times a sum is the sum of its products. -/
theorem mul_sum {ι : Type} (S : Finset ι) (f : ι → EReal) (z : ℝ) (hz : 0 ≤ z) :
    (z : EReal) * ∑ k ∈ S, f k = ∑ k ∈ S, (z : EReal) * f k := by
  classical
  induction S using Finset.induction_on with
  | empty => simp
  | insert a S ha ih =>
    rw [Finset.sum_insert ha, Finset.sum_insert ha, ← ih]
    exact EReal.left_distrib_of_nonneg_of_ne_top (by exact_mod_cast hz) (EReal.coe_ne_top z) _ _

/-- The maximum after a further block of scores. -/
theorem top_add (n B : ℕ) :
    top s (n + B) = max (top s n) (Finset.univ.fold max ⊥ fun x : Fin B => s (n + x.val)) := by
  have e : (Finset.univ.fold max ⊥ fun x : Fin B => s (n + x.val)) = (Finset.univ : Finset (Fin B)).sup fun x => s (n + x.val) := rfl
  rw [e]
  unfold top
  apply le_antisymm
  · refine Finset.sup_le fun k hk => ?_
    by_cases hkn : k < n
    · exact le_max_of_le_left (Finset.le_sup (Finset.mem_range.2 hkn))
    · have hk' := Finset.mem_range.1 hk
      refine le_max_of_le_right ?_
      have := Finset.le_sup (f := fun x : Fin B => s (n + x.val)) (Finset.mem_univ ⟨k - n, by omega⟩)
      simpa [Nat.add_sub_cancel' (Nat.le_of_not_lt hkn)] using this
  · refine max_le (Finset.sup_mono (Finset.range_mono (by omega))) (Finset.sup_le fun x _ => ?_)
    exact Finset.le_sup (f := s) (Finset.mem_range.2 (by omega))

/-- The weighted values after a further block: the old ones rescaled, the block's added. -/
theorem num_add (hs : ∀ k, s k ≠ ⊤) (h0 : s 0 ≠ ⊥) (n B : ℕ) (hB : 0 < B) :
    num s v (n + B) = Ideal.exp (top s n - top s (n + B)) * num s v n
      + ∑ x : Fin B, v (n + x.val) * Ideal.exp (s (n + x.val) - top s (n + B)) := by
  unfold num
  rw [Finset.sum_range_add]
  refine congrArg₂ (fun a b : EReal => a + b) ?_ (Finset.sum_range fun x => v (n + x) * Ideal.exp (s (n + x) - top s (n + B)))
  rcases Nat.eq_zero_or_pos n with rfl | hn
  · simp
  · obtain ⟨a, ha⟩ := top_real s hs h0 hn
    obtain ⟨b, hb⟩ := top_real s hs h0 (show 0 < n + B by omega)
    obtain ⟨z, hz, ez⟩ := exp_real (EReal.coe_ne_top a) b
    rw [ha, hb, ez, mul_sum _ _ z hz, ← ez]
    refine Finset.sum_congr rfl fun k _ => ?_
    rw [mul_left_comm, rescale (hs k)]

/-- The sum of exponentials after a further block. -/
theorem den_add (hs : ∀ k, s k ≠ ⊤) (h0 : s 0 ≠ ⊥) (n B : ℕ) (hB : 0 < B) :
    den s (n + B) = Ideal.exp (top s n - top s (n + B)) * den s n
      + ∑ x : Fin B, Ideal.exp (s (n + x.val) - top s (n + B)) := by
  have h := num_add s (fun _ => 1) hs h0 n B hB
  simpa only [num, den, one_mul] using h

/-- The sum of exponentials is a positive number. -/
theorem den_real (hs : ∀ k, s k ≠ ⊤) (h0 : s 0 ≠ ⊥) {n : ℕ} (hn : 0 < n) : ∃ z : ℝ, 0 < z ∧ den s n = z := by
  obtain ⟨a, ha⟩ := top_real s hs h0 hn
  choose f hf ef using fun k => exp_real (hs k) a
  refine ⟨∑ k ∈ Finset.range n, f k, ?_, ?_⟩
  · refine Finset.sum_pos' (fun k _ => hf k) ⟨0, Finset.mem_range.2 hn, ?_⟩
    have h := ef 0
    obtain ⟨r, hr⟩ : ∃ r : ℝ, s 0 = r := ⟨(s 0).toReal, (EReal.coe_toReal (hs 0) h0).symm⟩
    rw [hr, ← EReal.coe_sub, Ideal.exp_coe] at h
    rw [← EReal.coe_eq_coe_iff.1 h]
    exact Real.exp_pos _
  · unfold den
    rw [ha]
    simp only [ef]
    exact (map_sum (⟨⟨Real.toEReal, rfl⟩, EReal.coe_add⟩ : ℝ →+ EReal) f _).symm

/-- Scores past the first `n` that are all `⊥` change none of the three. -/
theorem top_pad {n : ℕ} (d : ℕ) (h : ∀ k, n ≤ k → s k = ⊥) : top s (n + d) = top s n := by
  apply le_antisymm _ (top_mono s (by omega))
  refine Finset.sup_le fun k _ => ?_
  by_cases hk : k < n
  · exact Finset.le_sup (Finset.mem_range.2 hk)
  · rw [h k (by omega)]
    exact bot_le

/-- The weighted values over padded scores. -/
theorem num_pad (n d : ℕ) (h : ∀ k, n ≤ k → s k = ⊥) : num s v (n + d) = num s v n := by
  unfold num
  rw [top_pad s d h, Finset.sum_range_add]
  simp [h]

/-- The sum of exponentials over padded scores. -/
theorem den_pad (n d : ℕ) (h : ∀ k, n ≤ k → s k = ⊥) : den s (n + d) = den s n := by
  unfold den
  rw [top_pad s d h, Finset.sum_range_add]
  simp [h]

/-- The quotient of the sums is the sum of the values times the softmax's quotients. -/
theorem num_div_den (hs : ∀ k, s k ≠ ⊤) (h0 : s 0 ≠ ⊥) {n : ℕ} (hn : 0 < n) :
    Ideal.div (num s v n) (den s n)
      = ∑ k ∈ Finset.range n, v k * Ideal.div (Ideal.exp (s k - top s n)) (den s n) := by
  obtain ⟨z, hz, ez⟩ := den_real s hs h0 hn
  have hne : (z : EReal) ≠ 0 := by exact_mod_cast hz.ne'
  have hi : ((z : EReal))⁻¹ = ((z⁻¹ : ℝ) : EReal) := (EReal.coe_inv z).symm
  rw [ez]
  simp only [Ideal.div, if_neg hne, hi]
  rw [mul_comm]
  unfold num
  rw [mul_sum _ _ _ (inv_nonneg.2 hz.le)]
  refine Finset.sum_congr rfl fun k _ => ?_
  rw [mul_left_comm, mul_comm (_ : EReal) (Ideal.exp _)]

end Cert.Softmax
end
-- ==== Proof.MlaValue.lean ====
module

public import proofs.«01_k».proof.Proof.MlaRun
public import proofs.«01_k».proof.Proof.Softmax

@[expose] public section

set_option maxRecDepth 16384

noncomputable section

namespace Cert.MlaIdeal.Hand

open Cert.MlaIdeal Cert.MlaIdeal.Gen Idealize.ShloMosaic Idealize.ShloMosaic.TcCoe Idealize.SL.Sem
open Idealize.ShloMosaic.Pipeline (Dat)
open Cert.Softmax

/-- The pattern of the least number stands for `⊥`. -/
theorem least : Ideal.ofBits FTy.f32 4286578688#32 = ⊥ := by simp [Ideal.ofBits, Ideal.ieee]

/-- A query's score with key `k` of its head, before the mask. -/
def raw (x0 : Vec Ideal S1x256x256 .bf16) (x1 : Vec Ideal S1x4096x256 .bf16) (r : Fin 256) (k : ℕ) : EReal :=
  ∑ l : Fin 256, x1 (ix3 0 ⟨k % 4096, Nat.mod_lt _ (by omega)⟩ l) * x0 (ix3 0 r l)

/-- The score of the query in row `r` of block `n`: `⊥` where the key's chunk comes after the query's. -/
def score (x0 : Vec Ideal S1x256x256 .bf16) (x1 : Vec Ideal S1x4096x256 .bf16) (n : ℕ) (r : Fin 256) (k : ℕ) : EReal :=
  if k / 64 ≤ (256 * n + r.val) / 64 then raw x0 x1 r k else ⊥

/-- Lane `d` of the value at key `k`. -/
def value (x2 : Vec Ideal S1x16x128x256 .bf16) (d : Fin 128) (k : ℕ) : EReal :=
  x2 (ix4 0 ⟨k % 4096 / 256, by omega⟩ d ⟨k % 256, Nat.mod_lt _ (by omega)⟩)

/-- A block's scores. -/
theorem pay2_at (x0 : Vec Ideal S1x256x256 .bf16) (x1 : Vec Ideal S1x4096x256 .bf16) (n : ℕ) (j r : Fin 256) :
    k0_pay2 (k0_pay14 x0) (keys x1 n) (ix2 j r) = raw x0 x1 r (256 * n + j.val) := by
  unfold k0_pay2 k0_pay14
  pointwise
  rfl

/-- The diagonal block's scores before the mask. -/
theorem pay20_at (x0 : Vec Ideal S1x256x256 .bf16) (x1 : Vec Ideal S1x4096x256 .bf16) (n : ℕ) (j r : Fin 256) :
    k0_pay20 x0 (keys x1 n) (ix2 j r) = raw x0 x1 r (256 * n + j.val) := by
  unfold k0_pay20 k0_pay14
  pointwise
  rfl

/-- An index below 256 shifted by six is its chunk. -/
theorem shr_at : ∀ j : Fin 256, IntOp.shrsi ArithUnit.vector (BitVec.ofNat 32 j.val) 6#32 = BitVec.ofNat 32 (j.val / 64) := by
  decide +kernel

/-- The signed comparison of two of a block's four chunks. -/
theorem sle_at : ∀ a b : Fin 4, IntOp.cmpi CmpIPredicate.sle (BitVec.ofNat 32 a.val) (BitVec.ofNat 32 b.val)
    = if a.val ≤ b.val then 1#1 else 0#1 := by
  decide +kernel

/-- The diagonal block's scores under the mask. -/
theorem pay22_at (x0 : Vec Ideal S1x256x256 .bf16) (x1 : Vec Ideal S1x4096x256 .bf16) (n : ℕ) (j r : Fin 256) :
    k0_pay22 (k0_pay20 x0 (keys x1 n)) k0_pay21 (iota .tc S256x256 32 [1] iota_S256x256_d1_w32) 6#32 (ix2 j r)
      = score x0 x1 n r (256 * n + j.val) := by
  unfold k0_pay22 k0_pay21 score
  pointwise
  rw [pay20_at, least, shr_at, shr_at, sle_at ⟨j.val / 64, by omega⟩ ⟨r.val / 64, by omega⟩]
  by_cases h : j.val / 64 ≤ r.val / 64
  · rw [if_pos h, if_pos (by omega)]
    rfl
  · rw [if_neg h, if_neg (by omega)]
    rfl

/-- The running maximum after one more block of scores `S`. -/
theorem pay3_at (x0 : Vec Ideal S1x256x256 .bf16) (x1 : Vec Ideal S1x4096x256 .bf16) (n : ℕ) (v : Vec Ideal S1x256 .f32) (r : Fin 256) :
    k0_pay3 (k0_pay14 x0) (keys x1 n) v (ix2 0 r)
      = max (v (ix2 0 r)) (Finset.univ.fold max ⊥ fun x : Fin 256 => raw x0 x1 r (256 * n + x.val)) := by
  unfold k0_pay3
  pointwise
  rw [least]
  simp only [pay2_at]

/-- The running maximum after the diagonal block. -/
theorem pay23_at (s : FVec Ideal S256x256 .f32) (a b : IVec S256x256 32) (v : Vec Ideal S1x256 .f32) (r : Fin 256)
    (S : Fin 256 → EReal) (hS : ∀ x, k0_pay22 s a b 6#32 (ix2 x r) = S x) :
    k0_pay23 s a b 6#32 v (ix2 0 r)
      = max (v (ix2 0 r)) (Finset.univ.fold max ⊥ S) := by
  obtain rfl := funext hS
  unfold k0_pay23
  pointwise
  rw [least]

/-- The running sum after one more block. -/
theorem pay6_at (x0 : Vec Ideal S1x256x256 .bf16) (x1 : Vec Ideal S1x4096x256 .bf16) (n : ℕ) (v w : Vec Ideal S1x256 .f32) (r : Fin 256) :
    k0_pay6 (k0_pay14 x0) (keys x1 n) v w (ix2 0 r)
      = Ideal.exp (v (ix2 0 r) - k0_pay3 (k0_pay14 x0) (keys x1 n) v (ix2 0 r)) * w (ix2 0 r)
        + ∑ x : Fin 256, Ideal.exp (raw x0 x1 r (256 * n + x.val) - k0_pay3 (k0_pay14 x0) (keys x1 n) v (ix2 0 r)) := by
  unfold k0_pay6 k0_pay5 k0_pay4
  pointwise
  simp only [pay2_at]

/-- The running sum after the diagonal block. -/
theorem pay26_at (s : FVec Ideal S256x256 .f32) (a b : IVec S256x256 32) (v w : Vec Ideal S1x256 .f32) (r : Fin 256)
    (S : Fin 256 → EReal) (hS : ∀ x, k0_pay22 s a b 6#32 (ix2 x r) = S x) :
    k0_pay26 s a b 6#32 v w (ix2 0 r)
      = Ideal.exp (v (ix2 0 r) - k0_pay23 s a b 6#32 v (ix2 0 r)) * w (ix2 0 r)
        + ∑ x : Fin 256, Ideal.exp (S x - k0_pay23 s a b 6#32 v (ix2 0 r)) := by
  obtain rfl := funext hS
  unfold k0_pay26 k0_pay25 k0_pay24
  pointwise

/-- A block of values at a lane. -/
theorem vals_at (x2 : Vec Ideal S1x16x128x256 .bf16) (n : ℕ) (hn : n < 16) (d : Fin 128) (x : Fin 256) :
    vals x2 n (ix4 0 0 d x) = value x2 d (256 * n + x.val) := by
  unfold vals value
  congr 1
  funext a
  apply Fin.ext
  match a with
  | ⟨0, _⟩ => rfl
  | ⟨1, _⟩ => show n % 16 = (256 * n + x.val) % 4096 / 256; omega
  | ⟨2, _⟩ => rfl
  | ⟨3, _⟩ => show x.val = (256 * n + x.val) % 256; omega

/-- The running weighted values after one more block. -/
theorem pay7_at (x0 : Vec Ideal S1x256x256 .bf16) (x1 : Vec Ideal S1x4096x256 .bf16) (n : ℕ) (v : Vec Ideal S1x256 .f32)
    (w : Vec Ideal S128x256 .f32) (u : Vec Ideal S1x1x128x256 .bf16) (d : Fin 128) (r : Fin 256) :
    k0_pay7 (k0_pay14 x0) (keys x1 n) v w u (ix2 d r)
      = Ideal.exp (v (ix2 0 r) - k0_pay3 (k0_pay14 x0) (keys x1 n) v (ix2 0 r)) * w (ix2 d r)
        + ∑ x : Fin 256, u (ix4 0 0 d x)
            * Ideal.exp (raw x0 x1 r (256 * n + x.val) - k0_pay3 (k0_pay14 x0) (keys x1 n) v (ix2 0 r)) := by
  unfold k0_pay7 k0_pay5 k0_pay4
  pointwise
  simp only [pay2_at]

/-- The running weighted values after the diagonal block. -/
theorem pay27_at (s : FVec Ideal S256x256 .f32) (a b : IVec S256x256 32) (v : Vec Ideal S1x256 .f32)
    (w : Vec Ideal S128x256 .f32) (u : Vec Ideal S1x1x128x256 .bf16) (d : Fin 128) (r : Fin 256)
    (S : Fin 256 → EReal) (hS : ∀ x, k0_pay22 s a b 6#32 (ix2 x r) = S x) :
    k0_pay27 s a b 6#32 v w u (ix2 d r)
      = Ideal.exp (v (ix2 0 r) - k0_pay23 s a b 6#32 v (ix2 0 r)) * w (ix2 d r)
        + ∑ x : Fin 256, u (ix4 0 0 d x)
            * Ideal.exp (S x - k0_pay23 s a b 6#32 v (ix2 0 r)) := by
  obtain rfl := funext hS
  unfold k0_pay27 k0_pay25 k0_pay24
  pointwise

/-- The output block's quotient, transposed. -/
theorem pay1_at (v : Vec Ideal S128x256 .f32) (w : Vec Ideal S1x256 .f32) (r : Fin 256) (d : Fin 128) :
    k0_pay1 v w (ix3 0 r d) = Ideal.div (v (ix2 d r)) (w (ix2 0 r)) := by
  unfold k0_pay1
  pointwise

/-- The scratch's first contents. -/
theorem init_at (r : Fin 256) (d : Fin 128) : k0_pay15 (F := Ideal) (ix2 0 r) = ⊥ ∧ k0_pay16 (F := Ideal) (ix2 0 r) = 0
    ∧ k0_pay17 (F := Ideal) (ix2 d r) = 0 := by
  refine ⟨?_, ?_, ?_⟩
  · unfold k0_pay15
    pointwise
    exact least
  · unfold k0_pay16
    pointwise
  · unfold k0_pay17
    pointwise

section state

variable (x0 : Vec Ideal S1x256x256 .bf16) (x1 : Vec Ideal S1x4096x256 .bf16) (x2 : Vec Ideal S1x16x128x256 .bf16)
  (i : ℕ) (hi : i < 16) (r : Fin 256) (hr : ∀ k, raw x0 x1 r k ≠ ⊤ ∧ raw x0 x1 r k ≠ ⊥)

include hr in
/-- Finite scores stay below `⊤` under the mask. -/
theorem score_ne (k : ℕ) : score x0 x1 i r k ≠ ⊤ := by
  unfold score
  split
  · exact (hr k).1
  · exact bot_ne_top

include hr in
/-- The first key's score is a number: its chunk comes before every query's. -/
theorem score_zero : score x0 x1 i r 0 ≠ ⊥ := by
  unfold score
  rw [if_pos (by omega)]
  exact (hr 0).2

include hr hi in
/-- After `n` full blocks the state is the softmax's over the first `256 n` scores. -/
theorem carry_at (d : Fin 128) (n : ℕ) (hn : n ≤ i) :
    (carry x0 x1 x2 n).1 (ix2 0 r) = top (score x0 x1 i r) (256 * n)
      ∧ (carry x0 x1 x2 n).2.1 (ix2 0 r) = den (score x0 x1 i r) (256 * n)
      ∧ (carry x0 x1 x2 n).2.2 (ix2 d r) = num (score x0 x1 i r) (value x2 d) (256 * n) := by
  induction n with
  | zero =>
    obtain ⟨a, b, c⟩ := init_at r d
    refine ⟨a.trans ?_, b.trans ?_, c.trans ?_⟩
    · simp [top]
    · simp [den]
    · simp [num]
  | succ n ih =>
    obtain ⟨i1, i2, i3⟩ := ih (by omega)
    have hs : ∀ x : Fin 256, raw x0 x1 r (256 * n + x.val) = score x0 x1 i r (256 * n + x.val) := by
      intro x
      unfold score
      rw [if_pos (by omega)]
    have e : 256 * (n + 1) = 256 * n + 256 := by ring
    have h1 : k0_pay3 (k0_pay14 x0) (keys x1 n) (carry x0 x1 x2 n).1 (ix2 0 r) = top (score x0 x1 i r) (256 * n + 256) := by
      rw [pay3_at, top_add, i1]
      simp only [hs]
    rw [e]
    refine ⟨?_, ?_, ?_⟩
    · show k0_pay18 (k0_pay3 (k0_pay14 x0) (keys x1 n) (carry x0 x1 x2 n).1) (ix2 0 r) = _
      unfold k0_pay18
      pointwise
      exact h1
    · show k0_pay6 (k0_pay14 x0) (keys x1 n) (carry x0 x1 x2 n).1 (carry x0 x1 x2 n).2.1 (ix2 0 r) = _
      rw [pay6_at, h1, i1, i2, den_add _ (score_ne x0 x1 i r hr) (score_zero x0 x1 i r hr) _ _ (by omega)]
      simp only [hs]
    · show k0_pay7 (k0_pay14 x0) (keys x1 n) (carry x0 x1 x2 n).1 (carry x0 x1 x2 n).2.2 (vals x2 n) (ix2 d r) = _
      rw [pay7_at, h1, i1, i3, num_add _ _ (score_ne x0 x1 i r hr) (score_zero x0 x1 i r hr) _ _ (by omega)]
      simp only [hs, vals_at x2 n (by omega) d]

include hr hi in
/-- A point's output block is the softmax's sum of values over its whole key range. -/
theorem done_at (d : Fin 128) :
    done x0 x1 x2 i (ix3 0 r d)
      = ∑ k ∈ Finset.range 4096, value x2 d k
          * Ideal.div (Ideal.exp (score x0 x1 i r k - top (score x0 x1 i r) 4096)) (den (score x0 x1 i r) 4096) := by
  obtain ⟨i1, i2, i3⟩ := carry_at x0 x1 x2 i hi r hr d i le_rfl
  have pad : ∀ k, 256 * i + 256 ≤ k → score x0 x1 i r k = ⊥ := by
    intro k hk
    unfold score
    rw [if_neg (by omega)]
  have h1 : k0_pay23 (k0_pay20 x0 (keys x1 i)) k0_pay21 (iota .tc S256x256 32 [1] iota_S256x256_d1_w32) 6#32
      (carry x0 x1 x2 i).1 (ix2 0 r) = top (score x0 x1 i r) (256 * i + 256) := by
    rw [pay23_at _ _ _ _ _ _ (fun x => pay22_at x0 x1 i x r), top_add, i1]
  have e : 4096 = 256 * i + 256 + (4096 - (256 * i + 256)) := by omega
  rw [← num_div_den _ _ (score_ne x0 x1 i r hr) (score_zero x0 x1 i r hr) (by omega)]
  rw [e, num_pad _ _ _ _ pad, den_pad _ _ _ pad]
  unfold done
  rw [pay1_at, pay27_at _ _ _ _ _ _ _ _ _ (fun x => pay22_at x0 x1 i x r),
    pay26_at _ _ _ _ _ _ _ (fun x => pay22_at x0 x1 i x r), h1, i1, i2, i3,
    num_add _ _ (score_ne x0 x1 i r hr) (score_zero x0 x1 i r hr) _ _ (by omega),
    den_add _ (score_ne x0 x1 i r hr) (score_zero x0 x1 i r hr) _ _ (by omega)]
  simp only [vals_at x2 i hi d]

end state

end Cert.MlaIdeal.Hand
end
-- ==== Proof.MlaRef.lean ====
module

public import proofs.«01_k».proof.Proof.Softmax
public import proofs.«01_k».proof.Proof.Gen.MlaRefIdeal.Read
public import Idealize.ShloMosaic.Lib.Pointwise
public import Idealize.ShloMosaic.Lib.ValueIdx

@[expose] public section

set_option maxRecDepth 16384

noncomputable section

namespace Cert.MlaRefIdeal.Hand

open Cert.MlaRefIdeal Cert.MlaRefIdeal.Read Idealize.ShloMosaic Idealize.ShloMosaic.TcCoe
open Cert.Softmax

/-- Query `q`'s score with key `k` in head `h` of batch `b`, before the mask. -/
def raw (x0 x1 : Vec Ideal S8x4096x2048 .bf16) (b h : Fin 8) (q : Fin 4096) (k : ℕ) : EReal :=
  ∑ l : Fin 256, x1 (ix3 b ⟨k % 4096, Nat.mod_lt _ (by omega)⟩ ⟨h.val * 256 + l.val, by omega⟩)
    * x0 (ix3 b q ⟨h.val * 256 + l.val, by omega⟩)

/-- The score under the mask: `⊥` where the key's chunk comes after the query's. -/
def score (x0 x1 : Vec Ideal S8x4096x2048 .bf16) (b h : Fin 8) (q : Fin 4096) (k : ℕ) : EReal :=
  if k / 64 ≤ q.val / 64 then raw x0 x1 b h q k else ⊥

/-- Lane `d` of head `h`'s value at key `k`. -/
def value (x2 : Vec Ideal S8x16x1024x256 .bf16) (b h : Fin 8) (d : Fin 128) (k : ℕ) : EReal :=
  x2 (ix4 b ⟨k % 4096 / 256, by omega⟩ ⟨h.val * 128 + d.val, by omega⟩ ⟨k % 256, Nat.mod_lt _ (by omega)⟩)

/-- A softmax-weighted sum of values: lane `d` of head `h`'s output at query `q`. -/
def attend (x0 x1 : Vec Ideal S8x4096x2048 .bf16) (x2 : Vec Ideal S8x16x1024x256 .bf16) (b h : Fin 8) (q : Fin 4096)
    (d : Fin 128) : EReal :=
  ∑ k ∈ Finset.range 4096, value x2 b h d k
    * Ideal.div (Ideal.exp (score x0 x1 b h q k - top (score x0 x1 b h q) 4096)) (den (score x0 x1 b h q) 4096)

/-- Floor division by 64 as the host spells it: the truncated quotient, one less where signs differ and a remainder is left. -/
def chunk (x : BitVec 32) : BitVec 32 :=
  Scalar.select
    (IntOp.andi
      (IntOp.cmpi CmpIPredicate.ne (if x = 0 then 0 else if x.msb = true then -1 else 1)
        (if (64#32) = 0 then 0 else if BitVec.msb (64#32) = true then -1 else 1 : BitVec 32))
      (IntOp.cmpi CmpIPredicate.ne (IntOp.remsi ArithUnit.host x 64#32) 0#32))
    (IntOp.subi (IntOp.divsi ArithUnit.host x 64#32) 1#32)
    (IntOp.divsi ArithUnit.host x 64#32)

/-- Of a position it is the position's chunk. -/
theorem chunk_at : ∀ k : Fin 4096, chunk (BitVec.ofNat 32 k.val) = BitVec.ofNat 32 (k.val / 64) := by
  decide +kernel

/-- The signed comparison of two of the sequence's 64 chunks. -/
theorem sle_at : ∀ a b : Fin 64, IntOp.cmpi CmpIPredicate.sle (BitVec.ofNat 32 a.val) (BitVec.ofNat 32 b.val)
    = if a.val ≤ b.val then 1#1 else 0#1 := by
  decide +kernel

/-- The keys' chunks. -/
theorem v13_at (k : Fin 4096) : val_main_v13 (F := Ideal) (ix2 0 k) = BitVec.ofNat 32 (k.val / 64) := by
  rw [← chunk_at]
  unfold val_main_v13 val_main_call0_v13 val_main_call0_v12 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_call0_c val_main_call0_c_0 val_main_v12 val_main_v11 val_main_c
  pointwise
  rfl

/-- The queries' chunks. -/
theorem v15_at (k : Fin 4096) : val_main_v15 (F := Ideal) (ix2 k 0) = BitVec.ofNat 32 (k.val / 64) := by
  rw [← chunk_at]
  unfold val_main_v15 val_main_call1_v13 val_main_call1_v12 val_main_call1_v11 val_main_call1_v10 val_main_call1_v9 val_main_call1_v8 val_main_call1_v7 val_main_call1_v6 val_main_call1_v5 val_main_call1_v4 val_main_call1_v3 val_main_call1_v2 val_main_call1_v1 val_main_call1_v0 val_main_call1_c val_main_call1_c_0 val_main_v14 val_main_v11 val_main_c_0
  pointwise
  rfl

/-- The pattern of the least number stands for `⊥`. -/
theorem least : Ideal.ofBits FTy.f32 4286578688#32 = ⊥ := by simp [Ideal.ofBits, Ideal.ieee]

/-- The mask at a query and a key. -/
theorem v18_at (q k : Fin 4096) : val_main_v18 (F := Ideal) (ix2 q k) = if k.val / 64 ≤ q.val / 64 then 1#1 else 0#1 := by
  unfold val_main_v18 val_main_v17 val_main_v16
  pointwise
  rw [v13_at, v15_at]
  exact sle_at ⟨k.val / 64, by omega⟩ ⟨q.val / 64, by omega⟩

/-- The two score products, summed. -/
theorem v21_at (x0 x1 : Vec Ideal S8x4096x2048 .bf16) (b h : Fin 8) (q k : Fin 4096) :
    val_main_v21 x0 x1 (ix4 b h q k) = raw x0 x1 b h q k.val := by
  unfold val_main_v21 val_main_v20 val_main_v19 val_main_v10 val_main_v9 val_main_v8 val_main_v7 val_main_v3 val_main_v2 val_main_v1 val_main_v0
  pointwise
  unfold raw
  simp only [Nat.mod_eq_of_lt k.isLt]
  refine Eq.trans ?_ (Fin.sum_univ_add (a := 128) (b := 128) (fun l : Fin (128 + 128) =>
    (x1 (ix3 b k ⟨h.val * 256 + l.val, by omega⟩) * x0 (ix3 b q ⟨h.val * 256 + l.val, by omega⟩) : EReal))).symm
  refine congr (congrArg (fun a b : EReal => a + b) ?_) ?_
  · exact Finset.sum_congr rfl fun l _ => mul_comm _ _
  · exact Finset.sum_congr rfl fun l _ => mul_comm _ _

/-- The masked scores. -/
theorem v23_at (x0 x1 : Vec Ideal S8x4096x2048 .bf16) (b h : Fin 8) (q k : Fin 4096) :
    val_main_v23 x0 x1 (ix4 b h q k) = score x0 x1 b h q k.val := by
  unfold val_main_v23 val_main_call2_v1 val_main_v22 val_main_call2_v2 val_main_call2_v0 val_main_cst
  pointwise
  rw [v18_at, v21_at]
  unfold score
  by_cases e : k.val / 64 ≤ q.val / 64
  · rw [if_pos e, if_pos e]
    rfl
  · rw [if_neg e, if_neg e]
    exact least

/-- The fold of maxima from `⊥`, as a reduction takes it. -/
theorem fold_top (s : ℕ → EReal) (n : ℕ) (f : Fin n → EReal) (hf : ∀ k, f k = s k.val) :
    max (⊥ : EReal) (Finset.univ.fold (FloatOps.maximumf (F := Ideal) (φ := .f32)) (⊥ : EReal) f) = top s n := by
  have e := top_add s 0 n
  simp only [Nat.zero_add] at e
  rw [e, show top s 0 = ⊥ from by simp [top]]
  obtain rfl : f = fun k => s k.val := funext hf
  rfl

/-- The rows' maximum, from the least number. -/
theorem v24_at (x0 x1 : Vec Ideal S8x4096x2048 .bf16) (b h : Fin 8) (q : Fin 4096) :
    val_main_v24 x0 x1 (ix3 b h q) = Finset.univ.fold (FloatOps.maximumf (F := Ideal) (φ := .f32)) (⊥ : EReal)
      fun k : Fin 4096 => val_main_v23 x0 x1 (ix4 b h q k) := by
  unfold val_main_v24
  generalize val_main_v23 x0 x1 = y
  refine (Host.reduce_eq_fold_single (FloatOps.maximumf (F := Ideal) (φ := .f32)) y _ _
    (by decide : S8x8x4096x4096.Reduces [3] S8x8x4096) _ _).trans ?_
  rw [val_main_cst_1_apply]
  refine congrArg₂ (fun (z : EReal) (f : Fin 4096 → EReal) => Finset.univ.fold (FloatOps.maximumf (F := Ideal) (φ := .f32)) z f) least ?_
  exact funext fun k => congrArg y (funext fun a => Fin.ext (by match a with | ⟨0, _⟩ => rfl | ⟨1, _⟩ => rfl | ⟨2, _⟩ => rfl | ⟨3, _⟩ => rfl))

/-- The rows' maximum. -/
theorem v26_at (x0 x1 : Vec Ideal S8x4096x2048 .bf16) (b h : Fin 8) (q : Fin 4096) :
    val_main_v26 x0 x1 (ix3 b h q) = top (score x0 x1 b h q) 4096 := by
  rw [val_main_v26_apply, v24_at, val_main_v25_apply, val_main_cst_2_apply]
  refine Eq.trans ?_ (fold_top (score x0 x1 b h q) 4096 _ fun k => v23_at x0 x1 b h q k)
  exact congrArg (fun z : EReal => max z _) least

/-- The exponentials. -/
theorem v30_at (x0 x1 : Vec Ideal S8x4096x2048 .bf16) (b h : Fin 8) (q k : Fin 4096) :
    val_main_v30 x0 x1 (ix4 b h q k) = Ideal.exp (score x0 x1 b h q k.val - top (score x0 x1 b h q) 4096) := by
  unfold val_main_v30 val_main_v29 val_main_v28 val_main_v27
  pointwise
  rw [v23_at, v26_at]

/-- The rows' sums. -/
theorem v31_at (x0 x1 : Vec Ideal S8x4096x2048 .bf16) (b h : Fin 8) (q : Fin 4096) :
    val_main_v31 x0 x1 (ix3 b h q) = den (score x0 x1 b h q) 4096 := by
  unfold val_main_v31 val_main_cst_3
  pointwise
  simp only [v30_at]
  unfold den
  rw [Finset.sum_range]

/-- The weights. -/
theorem v34_at (x0 x1 : Vec Ideal S8x4096x2048 .bf16) (b h : Fin 8) (q k : Fin 4096) :
    val_main_v34 x0 x1 (ix4 b h q k)
      = Ideal.div (Ideal.exp (score x0 x1 b h q k.val - top (score x0 x1 b h q) 4096)) (den (score x0 x1 b h q) 4096) := by
  unfold val_main_v34 val_main_v33 val_main_v32
  pointwise
  rw [v30_at, v31_at]

/-- The reference's result at a query and a lane of a head. -/
theorem out_at (x0 x1 : Vec Ideal S8x4096x2048 .bf16) (x2 : Vec Ideal S8x16x1024x256 .bf16) (b h : Fin 8) (q : Fin 4096)
    (d : Fin 128) : val_main_v38 x0 x1 x2 (ix3 b q ⟨h.val * 128 + d.val, by omega⟩) = attend x0 x1 x2 b h q d := by
  unfold val_main_v38 val_main_v37 val_main_v36 val_main_v35 val_main_v6 val_main_v5 val_main_v4
  pointwise
  simp only [v34_at]
  unfold attend
  rw [Finset.sum_range]
  refine Finset.sum_congr rfl fun k _ => ?_
  unfold value
  simp only [Nat.mod_eq_of_lt k.isLt]

end Cert.MlaRefIdeal.Hand
end
-- ==== Proof.MlaFinal.lean ====
module

public import proofs.«01_k».proof.Proof.MlaValue
public import proofs.«01_k».proof.Proof.MlaRef
public import Idealize.ShloMosaic.Lib.Claim
public import Idealize.ShloMosaic.Lib.Pipeline.ValueKit
public import Idealize.ShloMosaic.Lib.StableHlo.ReadAt

@[expose] public section

set_option maxRecDepth 16384

noncomputable section

namespace Cert.MlaIdeal.Hand

open Cert.MlaIdeal Cert.MlaIdeal.Gen Idealize.ShloMosaic Idealize.ShloMosaic.TcCoe Idealize.SL.Sem
open Idealize.ShloMosaic.Pipeline (Dat)

variable (m : (ℓ : Loc nD τ sig) → Buf (Elt Ideal) ℓ)

/-- Each window's block number at a point, and the point's third coordinate, decided over the grid. -/
theorem idx_rows : ∀ t : Fin cfg0.N, (win0_0.index t 0 = t.val / 128 ∧ win0_0.index t 1 = t.val % 16 ∧ win0_0.index t 2 = t.val / 16 % 8)
    ∧ (win0_1.index t 0 = t.val / 128 ∧ win0_1.index t 1 = 0 ∧ win0_1.index t 2 = t.val / 16 % 8)
    ∧ (win0_2.index t 0 = t.val / 128 ∧ win0_2.index t 1 = 0 ∧ win0_2.index t 2 = t.val / 16 % 8 ∧ win0_2.index t 3 = 0)
    ∧ (win0_3.index t 0 = t.val / 128 ∧ win0_3.index t 1 = t.val % 16 ∧ win0_3.index t 2 = t.val / 16 % 8)
    ∧ (grid0.coords t 2).val = t.val % 16 :=
  (by decide +kernel : ∀ t : Fin grid0.N, (win0_0.index t 0 = t.val / 128 ∧ win0_0.index t 1 = t.val % 16 ∧ win0_0.index t 2 = t.val / 16 % 8)
    ∧ (win0_1.index t 0 = t.val / 128 ∧ win0_1.index t 1 = 0 ∧ win0_1.index t 2 = t.val / 16 % 8)
    ∧ (win0_2.index t 0 = t.val / 128 ∧ win0_2.index t 1 = 0 ∧ win0_2.index t 2 = t.val / 16 % 8 ∧ win0_2.index t 3 = 0)
    ∧ (win0_3.index t 0 = t.val / 128 ∧ win0_3.index t 1 = t.val % 16 ∧ win0_3.index t 2 = t.val / 16 % 8)
    ∧ (grid0.coords t 2).val = t.val % 16)

/-- The grid has 1024 points: 8 batches of 8 heads of 16 query blocks. -/
theorem tlt (t : Fin cfg0.N) : t.val < 1024 := t.isLt

/-- A point's batch. -/
abbrev pb (t : Fin cfg0.N) : Fin 8 := ⟨t.val / 128, by have := tlt t; omega⟩
/-- A point's head. -/
abbrev ph (t : Fin cfg0.N) : Fin 8 := ⟨t.val / 16 % 8, by omega⟩
/-- The query that row `r` of a point's block stands for. -/
abbrev pq (t : Fin cfg0.N) (r : Fin 256) : Fin 4096 := ⟨t.val % 16 * 256 + r.val, by omega⟩

/-- The queries. -/
abbrev aQ (c : Dev nD) : Vec Ideal S8x4096x2048 .bf16 := m ((c : Thread nD τ).loc main_arg0)
/-- The keys. -/
abbrev aK (c : Dev nD) : Vec Ideal S8x4096x2048 .bf16 := m ((c : Thread nD τ).loc main_arg1)
/-- The values. -/
abbrev aV (c : Dev nD) : Vec Ideal S8x16x1024x256 .bf16 := m ((c : Thread nD τ).loc main_arg2)

/-- The queries' block at a point. -/
theorem blk0 (c : Dev nD) (t : Fin cfg0.N) (r l : Fin 256) :
    (iblk m c 0 t : Vec Ideal S1x256x256 .bf16) (ix3 0 r l) = aQ m c (ix3 (pb t) (pq t r) ⟨(ph t).val * 256 + l.val, by omega⟩) := by
  obtain ⟨⟨h0, h1, h2⟩, -⟩ := idx_rows t
  unfold aQ
  rw [← V_main_arg0 m c]
  unfold iblk
  rw [View.read_apply]
  show V m c main_arg0 _ = V m c main_arg0 _
  congr 1
  funext a
  apply Fin.ext
  match a with
  | ⟨0, _⟩ => show win0_0.index t 0 * 1 + 1 * 0 = t.val / 128; rw [h0]; omega
  | ⟨1, _⟩ => show win0_0.index t 1 * 256 + 1 * r.val = t.val % 16 * 256 + r.val; rw [h1]; omega
  | ⟨2, _⟩ => show win0_0.index t 2 * 256 + 1 * l.val = t.val / 16 % 8 * 256 + l.val; rw [h2]; omega

/-- The keys' block at a point. -/
theorem blk1 (c : Dev nD) (t : Fin cfg0.N) (k : Fin 4096) (l : Fin 256) :
    (iblk m c 1 t : Vec Ideal S1x4096x256 .bf16) (ix3 0 k l) = aK m c (ix3 (pb t) k ⟨(ph t).val * 256 + l.val, by omega⟩) := by
  obtain ⟨-, ⟨h0, h1, h2⟩, -⟩ := idx_rows t
  unfold aK
  rw [← V_main_arg1 m c]
  unfold iblk
  rw [View.read_apply]
  show V m c main_arg1 _ = V m c main_arg1 _
  congr 1
  funext a
  apply Fin.ext
  match a with
  | ⟨0, _⟩ => show win0_1.index t 0 * 1 + 1 * 0 = t.val / 128; rw [h0]; omega
  | ⟨1, _⟩ => show win0_1.index t 1 * 4096 + 1 * k.val = k.val; rw [h1]; omega
  | ⟨2, _⟩ => show win0_1.index t 2 * 256 + 1 * l.val = t.val / 16 % 8 * 256 + l.val; rw [h2]; omega

/-- The values' block at a point. -/
theorem blk2 (c : Dev nD) (t : Fin cfg0.N) (n : Fin 16) (d : Fin 128) (j : Fin 256) :
    (iblk m c 2 t : Vec Ideal S1x16x128x256 .bf16) (ix4 0 n d j) = aV m c (ix4 (pb t) n ⟨(ph t).val * 128 + d.val, by omega⟩ j) := by
  obtain ⟨-, -, ⟨h0, h1, h2, h3⟩, -⟩ := idx_rows t
  unfold aV
  rw [← V_main_arg2 m c]
  unfold iblk
  rw [View.read_apply]
  show V m c main_arg2 _ = V m c main_arg2 _
  congr 1
  funext a
  apply Fin.ext
  match a with
  | ⟨0, _⟩ => show win0_2.index t 0 * 1 + 1 * 0 = t.val / 128; rw [h0]; omega
  | ⟨1, _⟩ => show win0_2.index t 1 * 16 + 1 * n.val = n.val; rw [h1]; omega
  | ⟨2, _⟩ => show win0_2.index t 2 * 128 + 1 * d.val = t.val / 16 % 8 * 128 + d.val; rw [h2]; omega
  | ⟨3, _⟩ => show win0_2.index t 3 * 256 + 1 * j.val = j.val; rw [h3]; omega

/-- Where the output's block lies in the result. -/
theorem emb3 (t : Fin cfg0.N) (r : Fin 256) (d : Fin 128) :
    ((cfg0.win 3).blk t).view.emb (ix3 0 r d) = (ix3 (pb t) (pq t r) ⟨(ph t).val * 128 + d.val, by omega⟩ : S8x4096x1024.Idx) := by
  obtain ⟨-, -, -, ⟨h0, h1, h2⟩, -⟩ := idx_rows t
  funext a
  apply Fin.ext
  match a with
  | ⟨0, _⟩ => show win0_3.index t 0 * 1 + 1 * 0 = t.val / 128; rw [h0]; omega
  | ⟨1, _⟩ => show win0_3.index t 1 * 256 + 1 * r.val = t.val % 16 * 256 + r.val; rw [h1]; omega
  | ⟨2, _⟩ => show win0_3.index t 2 * 128 + 1 * d.val = t.val / 16 % 8 * 128 + d.val; rw [h2]; omega

/-- A point's scores before the mask are its batch's and head's. -/
theorem raw_blk (c : Dev nD) (t : Fin cfg0.N) (r : Fin 256) :
    raw (iblk m c 0 t) (iblk m c 1 t) r = Cert.MlaRefIdeal.Hand.raw (aQ m c) (aK m c) (pb t) (ph t) (pq t r) := by
  funext k
  unfold raw Cert.MlaRefIdeal.Hand.raw
  refine Finset.sum_congr rfl fun l _ => ?_
  rw [blk0, blk1]

/-- So are its masked scores. -/
theorem score_blk (c : Dev nD) (t : Fin cfg0.N) (r : Fin 256) :
    score (iblk m c 0 t) (iblk m c 1 t) (t.val % 16) r = Cert.MlaRefIdeal.Hand.score (aQ m c) (aK m c) (pb t) (ph t) (pq t r) := by
  funext k
  unfold score Cert.MlaRefIdeal.Hand.score
  rw [raw_blk]
  have e : 256 * (t.val % 16) + r.val = (pq t r).val := by show _ = t.val % 16 * 256 + r.val; omega
  rw [e]

/-- And its values. -/
theorem value_blk (c : Dev nD) (t : Fin cfg0.N) (d : Fin 128) :
    value (iblk m c 2 t) d = Cert.MlaRefIdeal.Hand.value (aV m c) (pb t) (ph t) d := by
  funext k
  unfold value Cert.MlaRefIdeal.Hand.value
  rw [blk2]

/-- A sum of products of numbers is a number. -/
theorem sum_mul_real {n : ℕ} (f g : Fin n → EReal) (hf : ∀ l, f l ≠ ⊤ ∧ f l ≠ ⊥) (hg : ∀ l, g l ≠ ⊤ ∧ g l ≠ ⊥) :
    (∑ l, f l * g l) ≠ ⊤ ∧ (∑ l, f l * g l) ≠ ⊥ := by
  have e : ∑ l, f l * g l = ((∑ l, (f l).toReal * (g l).toReal : ℝ) : EReal) := by
    refine Eq.trans (Finset.sum_congr rfl fun l _ => ?_) (map_sum (⟨⟨fun r : ℝ => (r : EReal), EReal.coe_zero⟩, EReal.coe_add⟩ : ℝ →+ EReal) _ _).symm
    show _ = (((f l).toReal * (g l).toReal : ℝ) : EReal)
    rw [EReal.coe_mul, EReal.coe_toReal (hf l).1 (hf l).2, EReal.coe_toReal (hg l).1 (hg l).2]
  rw [e]
  exact ⟨EReal.coe_ne_top _, EReal.coe_ne_bot _⟩

/-- An array of numbers: no infinity among its entries. -/
abbrev Numbers (x : Vec Ideal S8x4096x2048 .bf16) : Prop := ∀ i, (x i : EReal) ≠ ⊤ ∧ (x i : EReal) ≠ ⊥

/-- Queries and keys that are numbers have numbers for scores. -/
theorem raw_real (x0 x1 : Vec Ideal S8x4096x2048 .bf16) (h0 : Numbers x0) (h1 : Numbers x1) (b h : Fin 8) (q : Fin 4096) (k : ℕ) :
    Cert.MlaRefIdeal.Hand.raw x0 x1 b h q k ≠ ⊤ ∧ Cert.MlaRefIdeal.Hand.raw x0 x1 b h q k ≠ ⊥ :=
  sum_mul_real _ _ (fun _ => h1 _) (fun _ => h0 _)

/-- The reference's result. -/
abbrev refOut (c : Dev nD) : Vec Ideal S8x4096x1024 .bf16 := Cert.MlaRefIdeal.Read.val_main_v38 (F := Ideal) (aQ m c) (aK m c) (aV m c)

/-- What a point leaves in the output's block: the reference's result there. -/
theorem out_blk (c : Dev nD) (h0 : Numbers (aQ m c)) (h1 : Numbers (aK m c)) (t : Fin cfg0.N) (r : Fin 256) (d : Fin 128) :
    outsAt0 m c t (ix3 0 r d) = refOut m c (ix3 (pb t) (pq t r) ⟨(ph t).val * 128 + d.val, by omega⟩) := by
  obtain ⟨-, -, -, -, hi⟩ := idx_rows t
  rw [outs_eq, hi, done_at _ _ _ _ (by omega) r (by rw [raw_blk]; exact raw_real _ _ h0 h1 _ _ _), score_blk, value_blk]
  exact (Cert.MlaRefIdeal.Hand.out_at (aQ m c) (aK m c) (aV m c) (pb t) (ph t) (pq t r) d).symm

/-- The call's result is the reference's, for queries and keys that are numbers. -/
theorem final (c : Dev nD) (h0 : Numbers (aQ m c)) (h1 : Numbers (aK m c)) : (dats m 0 c).arrAt 3 cfg0.N = refOut m c := by
  refine (dats m 0 c).arrAt_eq_of_covers 3 _ (by decide +kernel) fun t _ y => ?_
  idx_vars y
  obtain rfl : y0 = 0 := Subsingleton.elim _ _
  refine Eq.trans ?_ (congrArg (refOut m c) (emb3 t y1 y2).symm)
  show (dats m 0 c).after 3 t (ix3 0 y1 y2 : S1x256x128.Idx) = _
  rw [after0_3]
  exact out_blk m c h0 h1 t y1 y2

end Cert.MlaIdeal.Hand

end
-- ==== Proof.MlaClaim.lean ====
module

public import proofs.«01_k».proof.Defs
public import proofs.«01_k».proof.Proof.MlaFinal
public import proofs.«01_k».proof.Proof.Gen.Mla.Frame
public import proofs.«01_k».proof.Proof.Gen.MlaRefIdeal.Run
public import proofs.«01_k».proof.Proof.Gen.Pre_finite_mla
public import Idealize.ShloMosaic.Lib.Quiescent

@[expose] public section

set_option maxRecDepth 16384

noncomputable section

namespace Cert.MlaIdeal.Hand

open Idealize.ShloMosaic Idealize.ShloMosaic.TcCoe Idealize.SL.Sem

/-- The latent attention's kernel leaves its arguments as launched. -/
theorem quiet : quiescent_Mla := fun m ρ _ => Cert.Mla.Gen.frame m ρ

/-- So does its idealization. -/
theorem quietIdeal : quiescent_MlaIdeal := fun m ρ _ => Cert.MlaIdeal.Gen.frame m ρ

/-- So it does for finite queries and keys. -/
theorem quietIdealFinite : quiescent_MlaIdeal_pre_finite_mla := fun m ρ _ => Cert.MlaIdeal.Gen.frame m ρ

/-- So does the reference. -/
theorem quietRef : quiescent_MlaRefIdeal := fun m ρ _ =>
  (θ_run Cert.MlaRefIdeal.defs _ _).mono (fun r h => ⟨fun c => (h c).2, sem_eq_zero_of_no_sems (by decide) r.2⟩)
    (Cert.MlaRefIdeal.Value.run (F := Ideal) m ρ)

/-- So it does for finite queries and keys. -/
theorem quietRefFinite : quiescent_MlaRefIdeal_pre_finite_mla := fun m ρ _ => quietRef m ρ trivial

/-- A magnitude below the pattern of infinity is a number's. -/
theorem number_of (x : EReal) (h : FloatOps.cmpf (F := Ideal) (φ := .bf16) .olt (FloatOps.hostAbsf (F := Ideal) (φ := .bf16) x)
    (FloatOps.ofBits (F := Ideal) .bf16 0x7F80#16) = 1#1) : x ≠ ⊤ ∧ x ≠ ⊥ := by
  have e : FloatOps.ofBits (F := Ideal) .bf16 0x7F80#16 = (⊤ : EReal) := by simp [Ideal.ofBits, Ideal.ieee]
  rw [e] at h
  change Ideal.cmp .olt (max x (-x)) ⊤ = 1#1 at h
  constructor <;> rintro rfl <;>
    simp [Ideal.cmp] at h

/-- What the precondition says of a device's queries and keys. -/
theorem numbers (m : (ℓ : Loc nD τ sig) → Buf (Elt Ideal) ℓ) (h : Pre_MlaIdeal_finite_mla m) (c : Dev nD) :
    Numbers (aQ m c) ∧ Numbers (aK m c) := by
  obtain ⟨h0, h1⟩ := h c
  exact ⟨fun i => number_of _ (congrFun h0 i), fun i => number_of _ (congrFun h1 i)⟩

/-- Read over the extended reals, for finite queries and keys the latent attention's kernel and its reference end with equal results. -/
theorem equal : algebraic_MlaIdeal_MlaRefIdeal_pre_finite_mla := by
  intro m ρ m' ρ' hp hag
  refine ⟨fun c => _, (θ_run _ _ _).mono (fun _ h c => ⟨(h c).1.trans (final m c (numbers m hp c).1 (numbers m hp c).2), (h c).2⟩)
      (Cert.MlaIdeal.Value.run_blocks m ρ),
    (θ_run _ _ _).mono (fun _ h c => ⟨(h c).1.trans ?_, (h c).2⟩) (Cert.MlaRefIdeal.Value.run (F := Ideal) m' ρ')⟩
  obtain ⟨e0, e1, e2⟩ := hag c
  rw [Cert.MlaRefIdeal.Read.val_main_v38_eq, e0, e1, e2]

end Cert.MlaIdeal.Hand

end
-- ==== Proof.FfnValue.lean ====
module

public import proofs.«01_k».proof.Proof.Gen.FfnIdeal.Value
public import proofs.«01_k».proof.Proof.Gen.FfnRefIdeal.Read
public import Idealize.ShloMosaic.Lib.Pointwise
public import Idealize.ShloMosaic.Lib.ValueIdx
public import Idealize.ShloMosaic.Lib.Claim
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The normed and modulated input block at a row and a lane. -/
theorem pay1_apply (v26 : Vec Ideal S512x2048 .f32) (v28 : Vec Ideal S1x2048 .f32) (v30 v32 : Vec Ideal S1x1x2048 .f32)
    (r : Fin 512) (c : Fin 2048) :
    k0_pay1 v26 v28 v30 v32 (ix2 r c) = v26 (ix2 r c) * Ideal.rsqrt
      (Ideal.div (∑ x : Fin 2048, v26 (ix2 r x) * v26 (ix2 r x)) (Ideal.ofBits FTy.f32 1157627904#32) + Ideal.ofBits FTy.f32 897988541#32)
        * v28 (ix2 0 c) * (1 + v32 (ix3 0 0 c)) + v30 (ix3 0 0 c) := by
  unfold k0_pay1
  pointwise

/-- One block's share of the down product: 512 hidden lanes. -/
theorem pay2_apply (v3 : Vec Ideal S512x2048 .bf16) (v4 v7 : Vec Ideal S2048x512 .bf16) (v14 : Vec Ideal S512x2048 .bf16)
    (r : Fin 512) (c : Fin 2048) :
    k0_pay2 v3 v4 v7 v14 (ix2 r c) = ∑ x : Fin 512, ((∑ k : Fin 2048, v3 (ix2 r k) * v4 (ix2 k x))
        * Ideal.logistic (∑ k : Fin 2048, v3 (ix2 r k) * v4 (ix2 k x)) * ∑ k : Fin 2048, v3 (ix2 r k) * v7 (ix2 k x))
      * v14 (ix2 x c) := by
  unfold k0_pay2
  pointwise

/-- The first block's store is its share. -/
theorem pay3_apply (v3 : Vec Ideal S512x2048 .bf16) (v4 v7 : Vec Ideal S2048x512 .bf16) (v14 : Vec Ideal S512x2048 .bf16)
    (r : Fin 512) (c : Fin 2048) : k0_pay3 v3 v4 v7 v14 (ix2 r c) = k0_pay2 v3 v4 v7 v14 (ix2 r c) := by
  unfold k0_pay3
  pointwise

/-- A later block adds its share. -/
theorem pay4_apply (v3 : Vec Ideal S512x2048 .bf16) (v4 v7 : Vec Ideal S2048x512 .bf16) (v14 : Vec Ideal S512x2048 .bf16)
    (v26 : Vec Ideal S512x2048 .f32) (r : Fin 512) (c : Fin 2048) :
    k0_pay4 v3 v4 v7 v14 v26 (ix2 r c) = v26 (ix2 r c) + k0_pay2 v3 v4 v7 v14 (ix2 r c) := by
  unfold k0_pay4
  pointwise

/-- The stored result: the input plus half the gate times the whole product. -/
theorem pay5_apply (v26 : Vec Ideal S1x1x2048 .f32) (v28 v34 : Vec Ideal S512x2048 .f32) (r : Fin 512) (c : Fin 2048) :
    k0_pay5 v26 v28 v34 (ix2 r c) = v28 (ix2 r c) + Ideal.ofBits FTy.f32 1056964608#32 * (1 + v26 (ix3 0 0 c)) * v34 (ix2 r c) := by
  unfold k0_pay5
  pointwise

/-- Each window's block number at a point, decided over the grid. -/
theorem idx_rows : ∀ t : Fin cfg0.N, (win0_0.index t 0 = t.val / 11 ∧ win0_0.index t 1 = 0) ∧ (win0_1.index t 0 = t.val / 88
    ∧ win0_1.index t 1 = 0 ∧ win0_1.index t 2 = 0) ∧ (win0_2.index t 0 = 0 ∧ win0_2.index t 1 = 0)
    ∧ (win0_3.index t 0 = 0 ∧ win0_3.index t 1 = t.val % 11) ∧ (win0_4.index t 0 = 0 ∧ win0_4.index t 1 = t.val % 11)
    ∧ (win0_5.index t 0 = t.val % 11 ∧ win0_5.index t 1 = 0) ∧ (win0_6.index t 0 = t.val / 11 ∧ win0_6.index t 1 = 0) :=
  (by decide +kernel : ∀ t : Fin grid0.N, (win0_0.index t 0 = t.val / 11 ∧ win0_0.index t 1 = 0) ∧ (win0_1.index t 0 = t.val / 88
    ∧ win0_1.index t 1 = 0 ∧ win0_1.index t 2 = 0) ∧ (win0_2.index t 0 = 0 ∧ win0_2.index t 1 = 0)
    ∧ (win0_3.index t 0 = 0 ∧ win0_3.index t 1 = t.val % 11) ∧ (win0_4.index t 0 = 0 ∧ win0_4.index t 1 = t.val % 11)
    ∧ (win0_5.index t 0 = t.val % 11 ∧ win0_5.index t 1 = 0) ∧ (win0_6.index t 0 = t.val / 11 ∧ win0_6.index t 1 = 0))

/-- The grid has 704 points: 64 row blocks of 11 hidden blocks. -/
theorem tlt (t : Fin cfg0.N) : t.val < 704 := t.isLt

/-- The array row that row `r` of row block `i` stands for. -/
abbrev row (i : Fin 64) (r : Fin 512) : Fin 32768 := ⟨i.val * 512 + r.val, by omega⟩
/-- A point's row block. -/
abbrev rb (t : Fin cfg0.N) : Fin 64 := ⟨t.val / 11, by have := tlt t; omega⟩
/-- A row's batch entry. -/
abbrev bat (R : Fin 32768) : Fin 8 := ⟨R.val / 4096, by omega⟩
/-- A row's place in its sequence. -/
abbrev tok (R : Fin 32768) : Fin 4096 := ⟨R.val % 4096, by omega⟩
/-- The hidden lane that lane `x` of point `t`'s weight blocks stands for. -/
abbrev hid (t : Fin cfg0.N) (x : Fin 512) : Fin 5632 := ⟨t.val % 11 * 512 + x.val, by omega⟩

/-- The input at a row and a lane. -/
abbrev aX (c : Dev nD) (R : Fin 32768) (k : Fin 2048) : EReal := m ((c : Thread nD τ).loc main_arg0) (ix3 (bat R) (tok R) k)
/-- The modulation of a row's batch entry. -/
abbrev aM (c : Dev nD) (R : Fin 32768) (k : Fin 18432) : EReal := m ((c : Thread nD τ).loc main_arg1) (ix2 (bat R) k)
/-- The norm's weights. -/
abbrev aN (c : Dev nD) (k : Fin 2048) : EReal := m ((c : Thread nD τ).loc main_arg2) (ix1 k)
/-- The gate weights. -/
abbrev aG (c : Dev nD) (k : Fin 2048) (x : Fin 5632) : EReal := m ((c : Thread nD τ).loc main_arg3) (ix2 k x)
/-- The up weights. -/
abbrev aU (c : Dev nD) (k : Fin 2048) (x : Fin 5632) : EReal := m ((c : Thread nD τ).loc main_arg4) (ix2 k x)
/-- The down weights. -/
abbrev aD (c : Dev nD) (x : Fin 5632) (k : Fin 2048) : EReal := m ((c : Thread nD τ).loc main_arg5) (ix2 x k)

/-- The input's block at a point. -/
theorem blk0 (c : Dev nD) (t : Fin cfg0.N) (r : Fin 512) (j : Fin 2048) :
    (iblk m c 0 t : Vec Ideal S512x2048 .f32) (ix2 r j)
      = aX m c (row (rb t) r) j := by
  obtain ⟨⟨h0, h1⟩, -⟩ := idx_rows t
  have hV : V m c main_v0 (ix2 (row (rb t) r) j) = aX m c (row (rb t) r) j := by
    unfold V
    after_reads_at
  rw [← hV]
  unfold iblk
  rw [View.read_apply]
  show V m c main_v0 _ = V m c main_v0 _
  congr 1
  funext a
  apply Fin.ext
  match a with
  | ⟨0, _⟩ => show win0_0.index t 0 * 512 + 1 * r.val = t.val / 11 * 512 + r.val; rw [h0]; omega
  | ⟨1, _⟩ => show win0_0.index t 1 * 2048 + 1 * j.val = j.val; rw [h1]; omega

/-- The modulation's block at a point: nine rows of its batch entry. -/
theorem blk1 (c : Dev nD) (t : Fin cfg0.N) (r : Fin 512) (q : Fin 9) (j : Fin 2048) :
    (iblk m c 1 t : Vec Ideal S1x9x2048 .f32) (ix3 0 q j)
      = aM m c (row (rb t) r) ⟨q.val * 2048 + j.val, by omega⟩ := by
  obtain ⟨-, ⟨h0, h1, h2⟩, -⟩ := idx_rows t
  have hV : V m c main_v1 (ix3 (bat (row (rb t) r)) q j)
      = aM m c (row (rb t) r) ⟨q.val * 2048 + j.val, by omega⟩ := by
    unfold V
    after_reads_at
  rw [← hV]
  unfold iblk
  rw [View.read_apply]
  show V m c main_v1 _ = V m c main_v1 _
  congr 1
  funext a
  apply Fin.ext
  match a with
  | ⟨0, _⟩ => show win0_1.index t 0 * 1 + 1 * 0 = (t.val / 11 * 512 + r.val) / 4096; rw [h0]; omega
  | ⟨1, _⟩ => show win0_1.index t 1 * 9 + 1 * q.val = q.val; rw [h1]; omega
  | ⟨2, _⟩ => show win0_1.index t 2 * 2048 + 1 * j.val = j.val; rw [h2]; omega

/-- The norm's weights' block is the whole array. -/
theorem blk2 (c : Dev nD) (t : Fin cfg0.N) (j : Fin 2048) :
    (iblk m c 2 t : Vec Ideal S1x2048 .f32) (ix2 0 j) = aN m c j := by
  obtain ⟨-, -, ⟨h0, h1⟩, -⟩ := idx_rows t
  have hV : V m c main_v5 (ix2 0 j) = aN m c j := by
    unfold V
    after_reads_at
  rw [← hV]
  unfold iblk
  rw [View.read_apply]
  show V m c main_v5 _ = V m c main_v5 _
  congr 1
  funext a
  apply Fin.ext
  match a with
  | ⟨0, _⟩ => show win0_2.index t 0 * 1 + 1 * 0 = 0; rw [h0]
  | ⟨1, _⟩ => show win0_2.index t 1 * 2048 + 1 * j.val = j.val; rw [h1]; omega

/-- The gate weights' block at a point: 512 columns. -/
theorem blk3 (c : Dev nD) (t : Fin cfg0.N) (k : Fin 2048) (x : Fin 512) :
    (iblk m c 3 t : Vec Ideal S2048x512 .bf16) (ix2 k x) = aG m c k (hid t x) := by
  obtain ⟨-, -, -, ⟨h0, h1⟩, -⟩ := idx_rows t
  have hV : V m c main_v2 (ix2 k (hid t x)) = aG m c k (hid t x) := by
    unfold V
    after_reads_at
  rw [← hV]
  unfold iblk
  rw [View.read_apply]
  show V m c main_v2 _ = V m c main_v2 _
  congr 1
  funext a
  apply Fin.ext
  match a with
  | ⟨0, _⟩ => show win0_3.index t 0 * 2048 + 1 * k.val = k.val; rw [h0]; omega
  | ⟨1, _⟩ => show win0_3.index t 1 * 512 + 1 * x.val = t.val % 11 * 512 + x.val; rw [h1]; omega

/-- The up weights' block at a point: 512 columns. -/
theorem blk4 (c : Dev nD) (t : Fin cfg0.N) (k : Fin 2048) (x : Fin 512) :
    (iblk m c 4 t : Vec Ideal S2048x512 .bf16) (ix2 k x) = aU m c k (hid t x) := by
  obtain ⟨-, -, -, -, ⟨h0, h1⟩, -⟩ := idx_rows t
  have hV : V m c main_v3 (ix2 k (hid t x)) = aU m c k (hid t x) := by
    unfold V
    after_reads_at
  rw [← hV]
  unfold iblk
  rw [View.read_apply]
  show V m c main_v3 _ = V m c main_v3 _
  congr 1
  funext a
  apply Fin.ext
  match a with
  | ⟨0, _⟩ => show win0_4.index t 0 * 2048 + 1 * k.val = k.val; rw [h0]; omega
  | ⟨1, _⟩ => show win0_4.index t 1 * 512 + 1 * x.val = t.val % 11 * 512 + x.val; rw [h1]; omega

/-- The down weights' block at a point: 512 rows. -/
theorem blk5 (c : Dev nD) (t : Fin cfg0.N) (x : Fin 512) (j : Fin 2048) :
    (iblk m c 5 t : Vec Ideal S512x2048 .bf16) (ix2 x j) = aD m c (hid t x) j := by
  obtain ⟨-, -, -, -, -, ⟨h0, h1⟩, -⟩ := idx_rows t
  have hV : V m c main_v4 (ix2 (hid t x) j) = aD m c (hid t x) j := by
    unfold V
    after_reads_at
  rw [← hV]
  unfold iblk
  rw [View.read_apply]
  show V m c main_v4 _ = V m c main_v4 _
  congr 1
  funext a
  apply Fin.ext
  match a with
  | ⟨0, _⟩ => show win0_5.index t 0 * 512 + 1 * x.val = t.val % 11 * 512 + x.val; rw [h0]; omega
  | ⟨1, _⟩ => show win0_5.index t 1 * 2048 + 1 * j.val = j.val; rw [h1]; omega

/-- The input at a row and a lane, normed, weighted, and modulated by the modulation's rows `q` (shift) and `q + 1` (scale). -/
def nrmAt (q : Fin 7) (c : Dev nD) (R : Fin 32768) (k : Fin 2048) : EReal :=
  aX m c R k * Ideal.rsqrt
      (Ideal.div (∑ x : Fin 2048, aX m c R x * aX m c R x)
        (Ideal.ofBits FTy.f32 1157627904#32) + Ideal.ofBits FTy.f32 897988541#32)
        * aN m c k * (1 + aM m c R ⟨(q.val + 1) * 2048 + k.val, by omega⟩)
      + aM m c R ⟨q.val * 2048 + k.val, by omega⟩

/-- One hidden lane's share of the result at a row and a column, of normed rows `N`: the gated lane times its down weight. -/
def share (N : Fin 32768 → Fin 2048 → EReal) (c : Dev nD) (R : Fin 32768) (x : Fin 5632) (j : Fin 2048) : EReal :=
  ((∑ k : Fin 2048, N R k * aG m c k x)
    * Ideal.logistic (∑ k : Fin 2048, N R k * aG m c k x)
    * ∑ k : Fin 2048, N R k * aU m c k x) * aD m c x j

/-- The half-step's result at a row and a column, its modulation starting at row `q`. -/
def resultAt (q : Fin 7) (c : Dev nD) (R : Fin 32768) (j : Fin 2048) : EReal :=
  aX m c R j + Ideal.ofBits FTy.f32 1056964608#32 * (1 + aM m c R ⟨(q.val + 2) * 2048 + j.val, by omega⟩)
    * ∑ x : Fin 5632, share m (nrmAt m q c) c R x j

/-- The normed block at a point, of modulation rows read off the modulation's block. -/
theorem pay1_blk (q : Fin 7) (c : Dev nD) (t : Fin cfg0.N) (v30 v32 : Vec Ideal S1x1x2048 .f32)
    (h0 : ∀ k : Fin 2048, v30 (ix3 0 0 k) = (iblk m c 1 t : Vec Ideal S1x9x2048 .f32) (ix3 0 ⟨q.val, by omega⟩ k))
    (h1 : ∀ k : Fin 2048, v32 (ix3 0 0 k) = (iblk m c 1 t : Vec Ideal S1x9x2048 .f32) (ix3 0 ⟨q.val + 1, by omega⟩ k))
    (r : Fin 512) (k : Fin 2048) :
    k0_pay1 (iblk m c 0 t) (iblk m c 2 t) v30 v32 (ix2 r k) = nrmAt m q c (row (rb t) r) k := by
  unfold nrmAt
  rw [pay1_apply, h0, h1, blk1 m c t r, blk1 m c t r, blk2]
  simp only [blk0]

/-- A block's share, from a normed block that holds `N` at the point's rows: 512 lanes' shares. -/
theorem pay2_blk (N : Fin 32768 → Fin 2048 → EReal) (c : Dev nD) (t : Fin cfg0.N) (h : Vec Ideal S512x2048 .bf16) (r : Fin 512)
    (j : Fin 2048) (hh : ∀ k : Fin 2048, h (ix2 r k) = N (row (rb t) r) k) :
    k0_pay2 h (iblk m c 3 t) (iblk m c 4 t) (iblk m c 5 t) (ix2 r j) = ∑ x : Fin 512, share m N c (row (rb t) r) (hid t x) j := by
  rw [pay2_apply]
  simp only [blk3, blk4, blk5, hh]
  rfl

/-- A row's shares as a sequence over all natural numbers, zero past the last lane. -/
def shareN (N : Fin 32768 → Fin 2048 → EReal) (c : Dev nD) (R : Fin 32768) (j : Fin 2048) (n : ℕ) : EReal :=
  if h : n < 5632 then share m N c R ⟨n, h⟩ j else 0

/-- One more block of lanes. -/
theorem shareN_step (N : Fin 32768 → Fin 2048 → EReal) (c : Dev nD) (t : Fin cfg0.N) (R : Fin 32768) (j : Fin 2048) :
    ∑ n ∈ Finset.range (t.val % 11 * 512 + 512), shareN m N c R j n
      = ∑ n ∈ Finset.range (t.val % 11 * 512), shareN m N c R j n + ∑ x : Fin 512, share m N c R (hid t x) j := by
  rw [Finset.sum_range_add, Finset.sum_range (n := 512)]
  congr 1
  refine Finset.sum_congr rfl fun x _ => ?_
  unfold shareN
  rw [dif_pos (by omega : t.val % 11 * 512 + x.val < 5632)]

/-- Two blocks carried from point to point, `H` kept from a row block's first point on and `A` added to at every point, hold the
    normed rows and the shares of the hidden lanes walked so far. -/
theorem carried_of (N : Fin 32768 → Fin 2048 → EReal) (c : Dev nD) (H : (n : ℕ) → n < cfg0.N → Vec Ideal S512x2048 .bf16)
    (A : (n : ℕ) → n < cfg0.N → Vec Ideal S512x2048 .f32)
    (first : ∀ t : Fin cfg0.N, t.val % 11 = 0 → (∀ (r : Fin 512) (k : Fin 2048), H t.val t.isLt (ix2 r k) = N (row (rb t) r) k)
      ∧ A t.val t.isLt = k0_pay3 (H t.val t.isLt) (iblk m c 3 t) (iblk m c 4 t) (iblk m c 5 t))
    (step : ∀ t : Fin cfg0.N, ¬t.val % 11 = 0 → H t.val t.isLt = H (t.val - 1) (by have := t.isLt; omega)
      ∧ A t.val t.isLt = k0_pay4 (H (t.val - 1) (by have := t.isLt; omega)) (iblk m c 3 t) (iblk m c 4 t) (iblk m c 5 t)
          (A (t.val - 1) (by have := t.isLt; omega))) :
    ∀ (n : ℕ) (hn : n < cfg0.N) (r : Fin 512), (∀ k : Fin 2048, H n hn (ix2 r k) = N (row (rb ⟨n, hn⟩) r) k)
      ∧ ∀ j : Fin 2048, A n hn (ix2 r j) = ∑ x ∈ Finset.range (n % 11 * 512 + 512), shareN m N c (row (rb ⟨n, hn⟩) r) j x := by
  have start : ∀ (t : Fin cfg0.N), t.val % 11 = 0 → ∀ r : Fin 512, (∀ k : Fin 2048, H t.val t.isLt (ix2 r k) = N (row (rb t) r) k)
      ∧ ∀ j : Fin 2048, A t.val t.isLt (ix2 r j)
        = ∑ x ∈ Finset.range (t.val % 11 * 512 + 512), shareN m N c (row (rb t) r) j x := by
    intro t h r
    obtain ⟨e1, e2⟩ := first t h
    refine ⟨e1 r, fun j => ?_⟩
    rw [e2, pay3_apply]
    refine (pay2_blk m N c t _ r j (e1 r)).trans ?_
    rw [shareN_step, h]
    simp
  intro n
  induction n with
  | zero => exact fun hn r => start ⟨0, hn⟩ rfl r
  | succ n ih =>
    intro hn r
    by_cases h : (n + 1) % 11 = 0
    · exact start ⟨n + 1, hn⟩ h r
    · obtain ⟨e1, e2⟩ := step ⟨n + 1, hn⟩ h
      obtain ⟨i1, i2⟩ := ih (by omega) r
      have hrb : rb ⟨n, by omega⟩ = rb ⟨n + 1, hn⟩ := Fin.ext (by show n / 11 = (n + 1) / 11; omega)
      rw [hrb] at i1 i2
      refine ⟨fun k => (congrFun e1 (ix2 r k)).trans (i1 k), fun j => (congrFun e2 (ix2 r j)).trans ?_⟩
      rw [pay4_apply]
      have hs := shareN_step m N c ⟨n + 1, hn⟩ (row (rb ⟨n + 1, hn⟩) r) j
      refine Eq.trans ?_ hs.symm
      refine congr (congrArg (fun a b : EReal => a + b) ((i2 j).trans ?_)) (pay2_blk m N c ⟨n + 1, hn⟩ _ r j i1)
      rw [show n % 11 * 512 + 512 = (⟨n + 1, hn⟩ : Fin cfg0.N).val % 11 * 512 from by show _ = (n + 1) % 11 * 512; omega]

/-- A row block's last store: with all the shares summed, the half-step's result at the block's rows. -/
theorem pay5_blk (q : Fin 7) (c : Dev nD) (t : Fin cfg0.N) (h : t.val % 11 = 10) (v26 : Vec Ideal S1x1x2048 .f32)
    (h2 : ∀ k : Fin 2048, v26 (ix3 0 0 k) = (iblk m c 1 t : Vec Ideal S1x9x2048 .f32) (ix3 0 ⟨q.val + 2, by omega⟩ k))
    (A : Vec Ideal S512x2048 .f32) (r : Fin 512) (j : Fin 2048)
    (hA : A (ix2 r j) = ∑ x ∈ Finset.range (t.val % 11 * 512 + 512), shareN m (nrmAt m q c) c (row (rb t) r) j x) :
    k0_pay5 v26 (iblk m c 0 t) A (ix2 r j) = resultAt m q c (row (rb t) r) j := by
  unfold resultAt
  rw [h, Finset.sum_range] at hA
  rw [pay5_apply, h2, blk0, blk1 m c t r, hA]
  refine congrArg (fun z : EReal => aX m c (row (rb t) r) j + Ideal.ofBits FTy.f32 1056964608#32
      * (1 + aM m c (row (rb t) r) ⟨(q.val + 2) * 2048 + j.val, by omega⟩) * z) ?_
  refine Finset.sum_congr rfl fun x _ => ?_
  unfold shareN
  rw [dif_pos x.isLt]

/-- The reference's normed input. -/
def nrm (c : Dev nD) (R : Fin 32768) (k : Fin 2048) : EReal := Cert.FfnRefIdeal.Read.val_main_v29 (F := Ideal)
  (m ((c : Thread nD τ).loc main_arg0)) (m ((c : Thread nD τ).loc main_arg1)) (m ((c : Thread nD τ).loc main_arg2)) (ix3 (bat R) (tok R) k)

open Cert.FfnRefIdeal.Read in
/-- It is the input normed and modulated by the modulation's first rows. -/
theorem nrm_eq (c : Dev nD) : nrm m c = nrmAt m 0 c := by
  funext R k
  unfold nrm nrmAt aX aM aN
  generalize m ((c : Thread nD τ).loc main_arg0) = x0
  generalize m ((c : Thread nD τ).loc main_arg1) = x1
  generalize m ((c : Thread nD τ).loc main_arg2) = x2
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v1 val_main_v0 val_main_cst val_main_cst_0 val_main_cst_1 val_main_cst_2
  pointwise

/-- The reference's result. -/
abbrev refOut (c : Dev nD) : Vec Ideal S32768x2048 .f32 := Cert.FfnRefIdeal.Read.val_main_v43 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

open Cert.FfnRefIdeal.Read in
/-- The reference's result at a row and a column. -/
theorem ref_apply (c : Dev nD) (R : Fin 32768) (j : Fin 2048) : refOut m c (ix2 R j) = resultAt m 0 c R j := by
  unfold resultAt
  rw [← nrm_eq]
  unfold refOut share nrm aX aM aG aU aD
  generalize m ((c : Thread nD τ).loc main_arg0) = x0
  generalize m ((c : Thread nD τ).loc main_arg1) = x1
  generalize m ((c : Thread nD τ).loc main_arg2) = x2
  generalize m ((c : Thread nD τ).loc main_arg3) = x3
  generalize m ((c : Thread nD τ).loc main_arg4) = x4
  generalize m ((c : Thread nD τ).loc main_arg5) = x5
  unfold val_main_v43 val_main_v42 val_main_v41 val_main_v40 val_main_v39 val_main_v38 val_main_v37 val_main_v36 val_main_call0_v5 val_main_call0_v4 val_main_call0_v3 val_main_call0_v2 val_main_call0_v1 val_main_call0_v0 val_main_call0_cst val_main_call0_cst_0 val_main_v35 val_main_v34 val_main_v33 val_main_v32 val_main_v31 val_main_v30 val_main_cst_3 val_main_cst_4 val_main_v2
  pointwise
  rfl

/-- A row block's first point stores the normed block and its lanes' shares. -/
theorem carried_first (c : Dev nD) (t : Fin cfg0.N) (h : t.val % 11 = 0) :
    (∀ (r : Fin 512) (k : Fin 2048), (outsAt0 m c t.val t.isLt).2.1 (ix2 r k) = nrmAt m 0 c (row (rb t) r) k)
    ∧ (outsAt0 m c t.val t.isLt).2.2 = k0_pay3 (outsAt0 m c t.val t.isLt).2.1 (iblk m c 3 t) (iblk m c 4 t) (iblk m c 5 t) := by
  rw [outsAt0_A m c t h h (by omega) (by omega)]
  constructor
  · intro r k
    frame_out
    exact pay1_blk m 0 c t _ _ (fun k => by pointwise) (fun k => by pointwise) r k
  · frame_out

/-- A later point keeps the normed block and adds its lanes' shares. -/
theorem carried_step (c : Dev nD) (t : Fin cfg0.N) (h : ¬t.val % 11 = 0) :
    (outsAt0 m c t.val t.isLt).2.1 = (outsAt0 m c (t.val - 1) (by have := t.isLt; omega)).2.1
    ∧ (outsAt0 m c t.val t.isLt).2.2 = k0_pay4 (outsAt0 m c (t.val - 1) (by have := t.isLt; omega)).2.1
        (iblk m c 3 t) (iblk m c 4 t) (iblk m c 5 t) (outsAt0 m c (t.val - 1) (by have := t.isLt; omega)).2.2 := by
  by_cases h3 : t.val % 11 = 10
  · rw [outsAt0_C m c t h h (by omega) h3]
    constructor
    · rfl
    · frame_out
      simp only [read_unread_whole]
  · rw [outsAt0_B m c t h h (by omega) h3]
    constructor
    · rfl
    · frame_out
      simp only [read_unread_whole]

/-- What a row block's last point leaves in the output's block: the half-step's result at the block's rows. -/
theorem out_apply (c : Dev nD) (t : Fin cfg0.N) (h : t.val % 11 = 10) (r : Fin 512) (j : Fin 2048) :
    (outsAt0 m c t.val t.isLt).1 (ix2 r j) = resultAt m 0 c (row (rb t) r) j := by
  have h2 := (carried_of m (nrmAt m 0 c) c (fun n hn => (outsAt0 m c n hn).2.1) (fun n hn => (outsAt0 m c n hn).2.2)
    (carried_first m c) (carried_step m c) t.val t.isLt r).2 j
  rw [(carried_step m c t (by omega)).2] at h2
  rw [outsAt0_C m c t (by omega) (by omega) (by omega) h]
  frame_out
  simp only [read_unread_whole]
  exact pay5_blk m 0 c t h _ (fun k => by pointwise) _ r j h2

/-- Where the output's block lies in the result. -/
theorem emb6 (t : Fin cfg0.N) (r : Fin 512) (j : Fin 2048) :
    ((cfg0.win 6).blk t).view.emb (ix2 r j) = (ix2 (row (rb t) r) j : S32768x2048.Idx) := by
  obtain ⟨-, -, -, -, -, -, h0, h1⟩ := idx_rows t
  funext a
  apply Fin.ext
  match a with
  | ⟨0, _⟩ => show win0_6.index t 0 * 512 + 1 * r.val = t.val / 11 * 512 + r.val; rw [h0]; omega
  | ⟨1, _⟩ => show win0_6.index t 1 * 2048 + 1 * j.val = j.val; rw [h1]; omega

/-- The call's result is the reference's, whatever the arguments. -/
theorem final (c : Dev nD) : (dats m 0 c).arrAt 6 cfg0.N = refOut m c := by
  refine (dats m 0 c).arrAt_eq_of_covers 6 _ (by decide +kernel) fun t hf y => ?_
  idx_vars y
  refine Eq.trans ?_ (congrArg (refOut m c) (emb6 t y0 y1).symm)
  rw [ref_apply]
  show (dats m 0 c).after 6 t (ix2 y0 y1 : S512x2048.Idx) = _
  rw [after0_6]
  exact out_apply m c t ((flush0_6 t).mp hf) y0 y1

end Cert.FfnIdeal.Hand

end
-- ==== Proof.FfnClaim.lean ====
module

public import proofs.«01_k».proof.Defs
public import proofs.«01_k».proof.Proof.FfnValue
public import proofs.«01_k».proof.Proof.Gen.Ffn.Frame
public import Idealize.ShloMosaic.Lib.Quiescent

@[expose] public section

set_option maxRecDepth 16384

noncomputable section

namespace Cert.FfnIdeal.Hand

open Idealize.ShloMosaic Idealize.ShloMosaic.TcCoe Idealize.SL.Sem

/-- The first half-step's kernel leaves its arguments as launched. -/
theorem quiet : quiescent_Ffn := fun m ρ _ => Cert.Ffn.Gen.frame m ρ

/-- So does its idealization. -/
theorem quietIdeal : quiescent_FfnIdeal := fun m ρ _ => Cert.FfnIdeal.Gen.frame m ρ

/-- So does the reference. -/
theorem quietRef : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- Read over the extended reals, the first half-step's kernel and its reference end with equal results. -/
theorem equal : algebraic_FfnIdeal_FfnRefIdeal := by
  intro m ρ m' ρ' _ hag
  refine ⟨fun c => _, (θ_run _ _ _).mono (fun _ h c => ⟨(h c).1.trans (final m c), (h c).2⟩) (Cert.FfnIdeal.Value.run_blocks m ρ),
    (θ_run _ _ _).mono (fun _ h c => ⟨(h c).1.trans ?_, (h c).2⟩) (Cert.FfnRefIdeal.Value.run (F := Ideal) m' ρ')⟩
  obtain ⟨e0, e1, e2, e3, e4, e5⟩ := hag c
  rw [Cert.FfnRefIdeal.Read.val_main_v43_eq, e0, e1, e2, e3, e4, e5]

end Cert.FfnIdeal.Hand

end
-- ==== Proof.FfnBValue.lean ====
module

public import proofs.«01_k».proof.Proof.Gen.FfnBIdeal.Value
public import proofs.«01_k».proof.Proof.Gen.FfnBRefIdeal.Read
public import proofs.«01_k».proof.Proof.FfnValue

@[expose] public section

set_option maxRecDepth 16384

noncomputable section

namespace Cert.FfnBIdeal.Hand

open Cert.FfnBIdeal Cert.FfnBIdeal.Gen Idealize.ShloMosaic Idealize.ShloMosaic.TcCoe Idealize.SL.Sem
open Idealize.ShloMosaic.Pipeline (Dat)
open Cert.FfnIdeal.Hand (row rb bat tok hid aX aM aN aG aU aD nrmAt share shareN resultAt)

/- The two half-steps' programs differ in the modulation's rows alone: the same arrays, windows and payloads. So what
   `FfnValue` states of those holds here as it stands, and a launch's memory is a launch's memory of the other. -/
variable (m : (ℓ : Loc nD τ sig) → Buf (Elt Ideal) ℓ)

open Cert.FfnBRefIdeal.Read in
/-- The reference's normed stage at a token and a lane, of any arguments. -/
theorem stage_nrm (x0 : Vec Ideal S8x4096x2048 .f32) (x1 : Vec Ideal S8x18432 .f32) (x2 : Vec Ideal S2048 .f32)
    (b : Fin 8) (s : Fin 4096) (k : Fin 2048) : val_main_v29 (F := Ideal) x0 x1 x2 (ix3 b s k) =
    x0 (ix3 b s k) * Ideal.rsqrt (Ideal.div (∑ x : Fin 2048, x0 (ix3 b s x) * x0 (ix3 b s x))
        (Ideal.ofBits FTy.f32 1157627904#32) + Ideal.ofBits FTy.f32 897988541#32)
        * x2 (ix1 k) * (1 + x1 (ix2 b ⟨14336 + k.val, by omega⟩)) + x1 (ix2 b ⟨12288 + k.val, by omega⟩) := by
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v7 val_main_v6 val_main_cst val_main_cst_0 val_main_cst_1 val_main_cst_2
  pointwise

open Cert.FfnBRefIdeal.Read in
/-- The reference's result at a row and a column, of any arguments, over its normed stage. -/
theorem stage_out (x0 : Vec Ideal S8x4096x2048 .f32) (x1 : Vec Ideal S8x18432 .f32) (x2 : Vec Ideal S2048 .f32)
    (x3 x4 : Vec Ideal S2048x5632 .f32) (x5 : Vec Ideal S5632x2048 .f32) (R : Fin 32768) (j : Fin 2048) :
    val_main_v43 (F := Ideal) x0 x1 x2 x3 x4 x5 (ix2 R j) = x0 (ix3 (bat R) (tok R) j) + Ideal.ofBits FTy.f32 1056964608#32
      * (1 + x1 (ix2 (bat R) ⟨16384 + j.val, by omega⟩)) * ∑ x : Fin 5632,
        ((∑ k : Fin 2048, val_main_v29 (F := Ideal) x0 x1 x2 (ix3 (bat R) (tok R) k) * x3 (ix2 k x))
          * Ideal.logistic (∑ k : Fin 2048, val_main_v29 (F := Ideal) x0 x1 x2 (ix3 (bat R) (tok R) k) * x3 (ix2 k x))
          * ∑ k : Fin 2048, val_main_v29 (F := Ideal) x0 x1 x2 (ix3 (bat R) (tok R) k) * x4 (ix2 k x)) * x5 (ix2 x j) := by
  unfold val_main_v43 val_main_v42 val_main_v41 val_main_v40 val_main_v39 val_main_v38 val_main_v37 val_main_v36 val_main_call0_v5 val_main_call0_v4 val_main_call0_v3 val_main_call0_v2 val_main_call0_v1 val_main_call0_v0 val_main_call0_cst val_main_call0_cst_0 val_main_v35 val_main_v34 val_main_v33 val_main_v32 val_main_v31 val_main_v30 val_main_cst_3 val_main_cst_4 val_main_v8
  pointwise
  try rfl

/-- The reference's result. -/
abbrev refOut (c : Dev nD) : Vec Ideal S32768x2048 .f32 := Cert.FfnBRefIdeal.Read.val_main_v43 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A row block's first point stores the normed block and its lanes' shares. -/
theorem carried_first (c : Dev nD) (t : Fin cfg0.N) (h : t.val % 11 = 0) :
    (∀ (r : Fin 512) (k : Fin 2048), (outsAt0 m c t.val t.isLt).2.1 (ix2 r k) = nrmAt m 6 c (row (rb t) r) k)
    ∧ (outsAt0 m c t.val t.isLt).2.2 = k0_pay3 (outsAt0 m c t.val t.isLt).2.1 (iblk m c 3 t) (iblk m c 4 t) (iblk m c 5 t) := by
  rw [outsAt0_A m c t h h (by omega) (by omega)]
  constructor
  · intro r k
    frame_out
    exact Cert.FfnIdeal.Hand.pay1_blk m 6 c t _ _ (fun k => by pointwise; rfl) (fun k => by pointwise; rfl) r k
  · frame_out

/-- A later point keeps the normed block and adds its lanes' shares. -/
theorem carried_step (c : Dev nD) (t : Fin cfg0.N) (h : ¬t.val % 11 = 0) :
    (outsAt0 m c t.val t.isLt).2.1 = (outsAt0 m c (t.val - 1) (by have := t.isLt; omega)).2.1
    ∧ (outsAt0 m c t.val t.isLt).2.2 = k0_pay4 (outsAt0 m c (t.val - 1) (by have := t.isLt; omega)).2.1
        (iblk m c 3 t) (iblk m c 4 t) (iblk m c 5 t) (outsAt0 m c (t.val - 1) (by have := t.isLt; omega)).2.2 := by
  by_cases h3 : t.val % 11 = 10
  · rw [outsAt0_C m c t h h (by omega) h3]
    exact ⟨rfl, by frame_out; simp only [read_unread_whole]⟩
  · rw [outsAt0_B m c t h h (by omega) h3]
    exact ⟨rfl, by frame_out; simp only [read_unread_whole]⟩

/-- What a row block's last point leaves in the output's block: the half-step's result at the block's rows. -/
theorem out_apply (c : Dev nD) (t : Fin cfg0.N) (h : t.val % 11 = 10) (r : Fin 512) (j : Fin 2048) :
    (outsAt0 m c t.val t.isLt).1 (ix2 r j) = resultAt m 6 c (row (rb t) r) j := by
  have h2 := (Cert.FfnIdeal.Hand.carried_of m (nrmAt m 6 c) c (fun n hn => (outsAt0 m c n hn).2.1)
    (fun n hn => (outsAt0 m c n hn).2.2) (carried_first m c) (carried_step m c) t.val t.isLt r).2 j
  rw [(carried_step m c t (by omega)).2] at h2
  rw [outsAt0_C m c t (by omega) (by omega) (by omega) h]
  frame_out
  simp only [read_unread_whole]
  exact Cert.FfnIdeal.Hand.pay5_blk m 6 c t h _ (fun k => by pointwise; rfl) _ r j h2

/-- The reference's result at a row and a column is the half-step's, of the modulation's last rows. -/
theorem ref_apply (c : Dev nD) (R : Fin 32768) (j : Fin 2048) : refOut m c (ix2 R j) = resultAt m 6 c R j := by
  refine (stage_out _ _ _ _ _ _ R j).trans ?_
  simp only [stage_nrm]
  rfl

/-- The call's result is the reference's, whatever the arguments. -/
theorem final (c : Dev nD) : (dats m 0 c).arrAt 6 cfg0.N = refOut m c := by
  refine (dats m 0 c).arrAt_eq_of_covers 6 _ (by decide +kernel) fun t hf y => ?_
  idx_vars y
  refine Eq.trans ?_ (congrArg (refOut m c) (Cert.FfnIdeal.Hand.emb6 t y0 y1).symm)
  rw [ref_apply]
  show (dats m 0 c).after 6 t (ix2 y0 y1 : S512x2048.Idx) = _
  rw [after0_6]
  exact out_apply m c t ((flush0_6 t).mp hf) y0 y1

end Cert.FfnBIdeal.Hand

end
-- ==== Proof.FfnBClaim.lean ====
module

public import proofs.«01_k».proof.Defs
public import proofs.«01_k».proof.Proof.FfnBValue
public import proofs.«01_k».proof.Proof.Gen.FfnB.Frame
public import Idealize.ShloMosaic.Lib.Quiescent

@[expose] public section

set_option maxRecDepth 16384

noncomputable section

namespace Cert.FfnBIdeal.Hand

open Idealize.ShloMosaic Idealize.ShloMosaic.TcCoe Idealize.SL.Sem

/-- The second half-step's kernel leaves its arguments as launched. -/
theorem quiet : quiescent_FfnB := fun m ρ _ => Cert.FfnB.Gen.frame m ρ

/-- So does its idealization. -/
theorem quietIdeal : quiescent_FfnBIdeal := fun m ρ _ => Cert.FfnBIdeal.Gen.frame m ρ

/-- So does the reference. -/
theorem quietRef : quiescent_FfnBRefIdeal := fun m ρ _ =>
  (θ_run Cert.FfnBRefIdeal.defs _ _).mono (fun r h => ⟨fun c => (h c).2, sem_eq_zero_of_no_sems (by decide) r.2⟩)
    (Cert.FfnBRefIdeal.Value.run (F := Ideal) m ρ)

/-- Read over the extended reals, the second half-step's kernel and its reference end with equal results. -/
theorem equal : algebraic_FfnBIdeal_FfnBRefIdeal := by
  intro m ρ m' ρ' _ hag
  refine ⟨fun c => _, (θ_run _ _ _).mono (fun _ h c => ⟨(h c).1.trans (final m c), (h c).2⟩) (Cert.FfnBIdeal.Value.run_blocks m ρ),
    (θ_run _ _ _).mono (fun _ h c => ⟨(h c).1.trans ?_, (h c).2⟩) (Cert.FfnBRefIdeal.Value.run (F := Ideal) m' ρ')⟩
  obtain ⟨e0, e1, e2, e3, e4, e5⟩ := hag c
  rw [Cert.FfnBRefIdeal.Read.val_main_v43_eq, e0, e1, e2, e3, e4, e5]

end Cert.FfnBIdeal.Hand

end
-- ==== Proof.ProjValue.lean ====
module

public import proofs.«01_k».proof.Proof.Gen.ProjIdeal.Value
public import proofs.«01_k».proof.Proof.Gen.ProjRefIdeal.Read
public import Idealize.ShloMosaic.Lib.Pointwise
public import Idealize.ShloMosaic.Lib.ValueIdx
public import Idealize.ShloMosaic.Lib.Claim
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- The normed and modulated input block at a row and a lane. -/
theorem pay1_apply (v26 : Vec Ideal S512x2048 .f32) (v28 : Vec Ideal S1x2048 .f32) (v30 v32 : Vec Ideal S1x1x2048 .f32)
    (r : Fin 512) (c : Fin 2048) :
    k0_pay1 v26 v28 v30 v32 (ix2 r c) = v26 (ix2 r c) * Ideal.rsqrt
      (Ideal.div (∑ x : Fin 2048, v26 (ix2 r x) * v26 (ix2 r x)) (Ideal.ofBits FTy.f32 1157627904#32) + Ideal.ofBits FTy.f32 897988541#32)
        * v28 (ix2 0 c) * (1 + v32 (ix3 0 0 c)) + v30 (ix3 0 0 c) := by
  unfold k0_pay1
  pointwise

/-- The stored block: the normed rows times 1664 columns of the weights. -/
theorem pay2_apply (v3 : Vec Ideal S512x2048 .bf16) (v4 : Vec Ideal S2048x1664 .bf16) (r : Fin 512) (c : Fin 1664) :
    k0_pay2 v3 v4 (ix2 r c) = ∑ k : Fin 2048, v3 (ix2 r k) * v4 (ix2 k c) := by
  unfold k0_pay2
  pointwise

/-- Each window's block number at a point, decided over the grid. -/
theorem idx_rows : ∀ t : Fin cfg0.N, (win0_0.index t 0 = t.val / 3 ∧ win0_0.index t 1 = 0) ∧ (win0_1.index t 0 = t.val / 24
    ∧ win0_1.index t 1 = 0 ∧ win0_1.index t 2 = 0) ∧ (win0_2.index t 0 = 0 ∧ win0_2.index t 1 = 0)
    ∧ (win0_3.index t 0 = 0 ∧ win0_3.index t 1 = t.val % 3) ∧ (win0_4.index t 0 = t.val / 3 ∧ win0_4.index t 1 = t.val % 3) :=
  (by decide +kernel : ∀ t : Fin grid0.N, (win0_0.index t 0 = t.val / 3 ∧ win0_0.index t 1 = 0) ∧ (win0_1.index t 0 = t.val / 24
    ∧ win0_1.index t 1 = 0 ∧ win0_1.index t 2 = 0) ∧ (win0_2.index t 0 = 0 ∧ win0_2.index t 1 = 0)
    ∧ (win0_3.index t 0 = 0 ∧ win0_3.index t 1 = t.val % 3) ∧ (win0_4.index t 0 = t.val / 3 ∧ win0_4.index t 1 = t.val % 3))

/-- The grid has 192 points: 64 row blocks of 3 column blocks. -/
theorem tlt (t : Fin cfg0.N) : t.val < 192 := t.isLt

/-- The array row that row `r` of row block `i` stands for. -/
abbrev row (i : Fin 64) (r : Fin 512) : Fin 32768 := ⟨i.val * 512 + r.val, by omega⟩
/-- A point's row block. -/
abbrev rb (t : Fin cfg0.N) : Fin 64 := ⟨t.val / 3, by have := tlt t; omega⟩
/-- A row's batch entry. -/
abbrev bat (R : Fin 32768) : Fin 8 := ⟨R.val / 4096, by omega⟩
/-- A row's place in its sequence. -/
abbrev tok (R : Fin 32768) : Fin 4096 := ⟨R.val % 4096, by omega⟩
/-- The weight column that column `x` of point `t`'s block stands for. -/
abbrev col (t : Fin cfg0.N) (x : Fin 1664) : Fin 4992 := ⟨t.val % 3 * 1664 + x.val, by omega⟩

/-- The input at a row and a lane. -/
abbrev aX (c : Dev nD) (R : Fin 32768) (k : Fin 2048) : EReal := m ((c : Thread nD τ).loc main_arg0) (ix3 (bat R) (tok R) k)
/-- The modulation of a row's batch entry. -/
abbrev aM (c : Dev nD) (R : Fin 32768) (k : Fin 18432) : EReal := m ((c : Thread nD τ).loc main_arg1) (ix2 (bat R) k)
/-- The norm's weights. -/
abbrev aN (c : Dev nD) (k : Fin 2048) : EReal := m ((c : Thread nD τ).loc main_arg2) (ix1 k)
/-- The projection's weights. -/
abbrev aW (c : Dev nD) (k : Fin 2048) (x : Fin 4992) : EReal := m ((c : Thread nD τ).loc main_arg3) (ix2 k x)

/-- The input's block at a point. -/
theorem blk0 (c : Dev nD) (t : Fin cfg0.N) (r : Fin 512) (j : Fin 2048) :
    (iblk m c 0 t : Vec Ideal S512x2048 .f32) (ix2 r j)
      = aX m c (row (rb t) r) j := by
  obtain ⟨⟨h0, h1⟩, -⟩ := idx_rows t
  have hV : V m c main_v0 (ix2 (row (rb t) r) j) = aX m c (row (rb t) r) j := by
    unfold V
    after_reads_at
  rw [← hV]
  unfold iblk
  rw [View.read_apply]
  show V m c main_v0 _ = V m c main_v0 _
  congr 1
  funext a
  apply Fin.ext
  match a with
  | ⟨0, _⟩ => show win0_0.index t 0 * 512 + 1 * r.val = t.val / 3 * 512 + r.val; rw [h0]; omega
  | ⟨1, _⟩ => show win0_0.index t 1 * 2048 + 1 * j.val = j.val; rw [h1]; omega

/-- The modulation's block at a point: nine rows of its batch entry. -/
theorem blk1 (c : Dev nD) (t : Fin cfg0.N) (r : Fin 512) (q : Fin 9) (j : Fin 2048) :
    (iblk m c 1 t : Vec Ideal S1x9x2048 .f32) (ix3 0 q j)
      = aM m c (row (rb t) r) ⟨q.val * 2048 + j.val, by omega⟩ := by
  obtain ⟨-, ⟨h0, h1, h2⟩, -⟩ := idx_rows t
  have hV : V m c main_v1 (ix3 (bat (row (rb t) r)) q j)
      = aM m c (row (rb t) r) ⟨q.val * 2048 + j.val, by omega⟩ := by
    unfold V
    after_reads_at
  rw [← hV]
  unfold iblk
  rw [View.read_apply]
  show V m c main_v1 _ = V m c main_v1 _
  congr 1
  funext a
  apply Fin.ext
  match a with
  | ⟨0, _⟩ => show win0_1.index t 0 * 1 + 1 * 0 = (t.val / 3 * 512 + r.val) / 4096; rw [h0]; omega
  | ⟨1, _⟩ => show win0_1.index t 1 * 9 + 1 * q.val = q.val; rw [h1]; omega
  | ⟨2, _⟩ => show win0_1.index t 2 * 2048 + 1 * j.val = j.val; rw [h2]; omega

/-- The norm's weights' block is the whole array. -/
theorem blk2 (c : Dev nD) (t : Fin cfg0.N) (j : Fin 2048) :
    (iblk m c 2 t : Vec Ideal S1x2048 .f32) (ix2 0 j) = aN m c j := by
  obtain ⟨-, -, ⟨h0, h1⟩, -⟩ := idx_rows t
  have hV : V m c main_v3 (ix2 0 j) = aN m c j := by
    unfold V
    after_reads_at
  rw [← hV]
  unfold iblk
  rw [View.read_apply]
  show V m c main_v3 _ = V m c main_v3 _
  congr 1
  funext a
  apply Fin.ext
  match a with
  | ⟨0, _⟩ => show win0_2.index t 0 * 1 + 1 * 0 = 0; rw [h0]
  | ⟨1, _⟩ => show win0_2.index t 1 * 2048 + 1 * j.val = j.val; rw [h1]; omega

/-- The weights' block at a point: 1664 columns. -/
theorem blk3 (c : Dev nD) (t : Fin cfg0.N) (k : Fin 2048) (x : Fin 1664) :
    (iblk m c 3 t : Vec Ideal S2048x1664 .bf16) (ix2 k x) = aW m c k (col t x) := by
  obtain ⟨-, -, -, ⟨h0, h1⟩, -⟩ := idx_rows t
  have hV : V m c main_v2 (ix2 k (col t x)) = aW m c k (col t x) := by
    unfold V
    after_reads_at
  rw [← hV]
  unfold iblk
  rw [View.read_apply]
  show V m c main_v2 _ = V m c main_v2 _
  congr 1
  funext a
  apply Fin.ext
  match a with
  | ⟨0, _⟩ => show win0_3.index t 0 * 2048 + 1 * k.val = k.val; rw [h0]; omega
  | ⟨1, _⟩ => show win0_3.index t 1 * 1664 + 1 * x.val = t.val % 3 * 1664 + x.val; rw [h1]; omega

/-- The normed and modulated input at a row and a lane: the reference's own stage. -/
def nrm (c : Dev nD) (R : Fin 32768) (k : Fin 2048) : EReal := Cert.ProjRefIdeal.Read.val_main_v29 (F := Ideal)
  (m ((c : Thread nD τ).loc main_arg0)) (m ((c : Thread nD τ).loc main_arg1)) (m ((c : Thread nD τ).loc main_arg2)) (ix3 (bat R) (tok R) k)

open Cert.ProjRefIdeal.Read in
/-- The reference's normed input, written out. -/
theorem nrm_eq (c : Dev nD) (R : Fin 32768) (k : Fin 2048) : nrm m c R k =
    aX m c R k * Ideal.rsqrt
      (Ideal.div (∑ x : Fin 2048, aX m c R x * aX m c R x)
        (Ideal.ofBits FTy.f32 1157627904#32) + Ideal.ofBits FTy.f32 897988541#32)
        * aN m c k * (1 + aM m c R ⟨8192 + k.val, by omega⟩)
      + aM m c R ⟨6144 + k.val, by omega⟩ := by
  unfold nrm aX aM aN
  generalize m ((c : Thread nD τ).loc main_arg0) = x0
  generalize m ((c : Thread nD τ).loc main_arg1) = x1
  generalize m ((c : Thread nD τ).loc main_arg2) = x2
  unfold val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v4 val_main_v3 val_main_cst val_main_cst_0 val_main_cst_1 val_main_cst_2
  pointwise

open Cert.ProjRefIdeal.Read in
/-- The reference's result at a row and a column. -/
theorem ref_apply (c : Dev nD) (R : Fin 32768) (j : Fin 4992) : val_main_v31 (F := Ideal)
    (m ((c : Thread nD τ).loc main_arg0)) (m ((c : Thread nD τ).loc main_arg1)) (m ((c : Thread nD τ).loc main_arg2))
    (m ((c : Thread nD τ).loc main_arg3)) (ix2 R j) = ∑ k : Fin 2048, nrm m c R k * aW m c k j := by
  unfold nrm aW
  generalize m ((c : Thread nD τ).loc main_arg0) = x0
  generalize m ((c : Thread nD τ).loc main_arg1) = x1
  generalize m ((c : Thread nD τ).loc main_arg2) = x2
  generalize m ((c : Thread nD τ).loc main_arg3) = x3
  unfold val_main_v31 val_main_v30
  pointwise

/-- The normed block at a point is the reference's normed input at the point's rows. -/
theorem pay1_blk (c : Dev nD) (t : Fin cfg0.N) (r : Fin 512) (k : Fin 2048) :
    k0_pay1 (iblk m c 0 t) (iblk m c 2 t)
      (View.ld (iblk m c 1 t) (Rect.unit ![0, 3, 0] ![1, 1, 2048] inb_S1x9x2048_S1x1x2048_0_3_0))
      (View.ld (iblk m c 1 t) (Rect.unit ![0, 4, 0] ![1, 1, 2048] inb_S1x9x2048_S1x1x2048_0_4_0)) (ix2 r k) = nrm m c (row (rb t) r) k := by
  rw [nrm_eq, pay1_apply]
  have e0 : (View.ld (iblk m c 1 t) (Rect.unit ![0, 3, 0] ![1, 1, 2048] inb_S1x9x2048_S1x1x2048_0_3_0) : Vec Ideal S1x1x2048 .f32) (ix3 0 0 k)
      = (iblk m c 1 t : Vec Ideal S1x9x2048 .f32) (ix3 0 3 k) := by pointwise
  have e1 : (View.ld (iblk m c 1 t) (Rect.unit ![0, 4, 0] ![1, 1, 2048] inb_S1x9x2048_S1x1x2048_0_4_0) : Vec Ideal S1x1x2048 .f32) (ix3 0 0 k)
      = (iblk m c 1 t : Vec Ideal S1x9x2048 .f32) (ix3 0 4 k) := by pointwise
  rw [e0, e1, blk1 m c t r, blk1 m c t r, blk2]
  simp only [blk0]
  rfl

/-- The stored block, from a normed block that agrees with the reference's normed input. -/
theorem pay2_blk (c : Dev nD) (t : Fin cfg0.N) (h : Vec Ideal S512x2048 .bf16) (r : Fin 512) (j : Fin 1664)
    (hh : ∀ k : Fin 2048, h (ix2 r k) = nrm m c (row (rb t) r) k) :
    k0_pay2 h (iblk m c 3 t) (ix2 r j) = ∑ k : Fin 2048, nrm m c (row (rb t) r) k * aW m c k (col t j) := by
  rw [pay2_apply]
  simp only [blk3, hh]

/-- After every point the carried block holds the reference's normed rows and the output's block the reference's result there. -/
theorem carried (c : Dev nD) : ∀ (n : ℕ) (hn : n < cfg0.N) (r : Fin 512),
    (∀ k : Fin 2048, (outsAt0 m c n hn).2 (ix2 r k) = nrm m c (row (rb ⟨n, hn⟩) r) k)
    ∧ ∀ j : Fin 1664, (outsAt0 m c n hn).1 (ix2 r j) = ∑ k : Fin 2048, nrm m c (row (rb ⟨n, hn⟩) r) k * aW m c k (col ⟨n, hn⟩ j) := by
  have first : ∀ (t : Fin cfg0.N) (h : t.val % 3 = 0) (r : Fin 512),
      (∀ k : Fin 2048, (outsAt0 m c t.val t.isLt).2 (ix2 r k) = nrm m c (row (rb t) r) k)
      ∧ ∀ j : Fin 1664, (outsAt0 m c t.val t.isLt).1 (ix2 r j) = ∑ k : Fin 2048, nrm m c (row (rb t) r) k * aW m c k (col t j) := by
    intro t h r
    rw [outsAt0_A m c t h]
    constructor
    · intro k
      frame_out
      exact pay1_blk m c t r k
    · intro j
      frame_out
      exact pay2_blk m c t _ r j (fun k => pay1_blk m c t r k)
  have later : ∀ (t : Fin cfg0.N) (h : ¬t.val % 3 = 0),
      (outsAt0 m c t.val t.isLt).2 = (outsAt0 m c (t.val - 1) (by have := t.isLt; omega)).2
      ∧ (outsAt0 m c t.val t.isLt).1 = k0_pay2 (outsAt0 m c (t.val - 1) (by have := t.isLt; omega)).2 (iblk m c 3 t) := by
    intro t h
    rw [outsAt0_B m c t h]
    constructor
    · rfl
    · frame_out
      simp only [read_unread_whole]
  intro n
  induction n with
  | zero => exact fun hn r => first ⟨0, hn⟩ rfl r
  | succ n ih =>
    intro hn r
    by_cases h : (n + 1) % 3 = 0
    · exact first ⟨n + 1, hn⟩ h r
    · obtain ⟨e1, e2⟩ := later ⟨n + 1, hn⟩ h
      obtain ⟨i1, -⟩ := ih (by omega) r
      have hrb : rb ⟨n, by omega⟩ = rb ⟨n + 1, hn⟩ := Fin.ext (by show n / 3 = (n + 1) / 3; omega)
      rw [hrb] at i1
      exact ⟨fun k => (congrFun e1 (ix2 r k)).trans (i1 k), fun j => (congrFun e2 (ix2 r j)).trans (pay2_blk m c ⟨n + 1, hn⟩ _ r j i1)⟩

/-- The call's result is the reference's, whatever the arguments. -/
theorem final (c : Dev nD) : (dats m 0 c).arrAt 4 cfg0.N = Cert.ProjRefIdeal.Read.val_main_v31 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 4 _ (by decide +kernel) fun t hf y => ?_
  idx_vars y
  obtain ⟨-, -, -, -, h0, h1⟩ := idx_rows t
  have he : ((cfg0.win 4).blk t).view.emb (ix2 y0 y1) = (ix2 (row (rb t) y0) (col t y1) : S32768x4992.Idx) := by
    funext a
    apply Fin.ext
    match a with
    | ⟨0, _⟩ => show win0_4.index t 0 * 512 + 1 * y0.val = t.val / 3 * 512 + y0.val; rw [h0]; omega
    | ⟨1, _⟩ => show win0_4.index t 1 * 1664 + 1 * y1.val = t.val % 3 * 1664 + y1.val; rw [h1]; omega
  refine Eq.trans ?_ (congrArg (Cert.ProjRefIdeal.Read.val_main_v31 (F := Ideal)
    (m ((c : Thread nD τ).loc main_arg0)) (m ((c : Thread nD τ).loc main_arg1)) (m ((c : Thread nD τ).loc main_arg2))
    (m ((c : Thread nD τ).loc main_arg3))) he.symm)
  rw [ref_apply]
  show (dats m 0 c).after 4 t (ix2 y0 y1 : S512x1664.Idx) = _
  rw [after0_4]
  exact (carried m c t.val t.isLt y0).2 y1

end Cert.ProjIdeal.Hand

end
-- ==== Proof.ProjClaim.lean ====
module

public import proofs.«01_k».proof.Defs
public import proofs.«01_k».proof.Proof.ProjValue
public import proofs.«01_k».proof.Proof.Gen.Proj.Frame
public import Idealize.ShloMosaic.Lib.Quiescent

@[expose] public section

set_option maxRecDepth 16384

noncomputable section

namespace Cert.ProjIdeal.Hand

open Idealize.ShloMosaic Idealize.ShloMosaic.TcCoe Idealize.SL.Sem

/-- The input projection's kernel leaves its arguments as launched. -/
theorem quiet : quiescent_Proj := fun m ρ _ => Cert.Proj.Gen.frame m ρ

/-- So does its idealization. -/
theorem quietIdeal : quiescent_ProjIdeal := fun m ρ _ => Cert.ProjIdeal.Gen.frame m ρ

/-- So does the reference. -/
theorem quietRef : quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- Read over the extended reals, the input projection's kernel and its reference end with equal results. -/
theorem equal : algebraic_ProjIdeal_ProjRefIdeal := by
  intro m ρ m' ρ' _ hag
  refine ⟨fun c => _, (θ_run _ _ _).mono (fun _ h c => ⟨(h c).1.trans (final m c), (h c).2⟩) (Cert.ProjIdeal.Value.run_blocks m ρ),
    (θ_run _ _ _).mono (fun _ h c => ⟨(h c).1.trans ?_, (h c).2⟩) (Cert.ProjRefIdeal.Value.run (F := Ideal) m' ρ')⟩
  obtain ⟨e0, e1, e2, e3⟩ := hag c
  rw [Cert.ProjRefIdeal.Read.val_main_v31_eq, e0, e1, e2, e3]

end Cert.ProjIdeal.Hand

end
-- ==== Proof.OutValue.lean ====
module

public import proofs.«01_k».proof.Proof.Gen.OutIdeal.Value
public import proofs.«01_k».proof.Proof.Gen.OutRefIdeal.Read
public import Idealize.ShloMosaic.Lib.Pointwise
public import Idealize.ShloMosaic.Lib.ValueIdx
public import Idealize.ShloMosaic.Lib.Claim
public import Idealize.ShloMosaic.Lib.Pipeline.ValueKit
public import Idealize.ShloMosaic.Lib.StableHlo.ReadAt

@[expose] public section

set_option maxRecDepth 16384

noncomputable section

namespace Cert.OutIdeal.Hand

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ)

/-- The stored block at a row and a column: the input plus the gate times the three products. -/
theorem pay_apply (v0 : Vec Ideal S512x512 .bf16) (v2 : Vec Ideal S512x2048 .bf16) (v5 : Vec Ideal S512x1024 .bf16)
    (v7 : Vec Ideal S1024x2048 .bf16) (v11 : Vec Ideal S512x512 .bf16) (v13 : Vec Ideal S512x2048 .bf16)
    (v17 : Vec Ideal S512x2048 .f32) (v19 : Vec Ideal S1x1x2048 .f32) (r : Fin 512) (c : Fin 2048) :
    k0_pay1 v0 v2 v5 v7 v11 v13 v17 v19 (ix2 r c) = v17 (ix2 r c) + (1 + v19 (ix3 0 0 c)) *
      ((∑ k : Fin 512, v0 (ix2 r k) * v2 (ix2 k c)) + (∑ k : Fin 1024, v5 (ix2 r k) * v7 (ix2 k c))
        + ∑ k : Fin 512, v11 (ix2 r k) * v13 (ix2 k c)) := by
  unfold k0_pay1
  pointwise

/-- Each moving window's block number at a point, decided over the grid. -/
theorem idx_rows : ∀ t : Fin cfg0.N, win0_0.index t 0 = t.val ∧ win0_0.index t 1 = 0 ∧ win0_1.index t 0 = t.val / 8
    ∧ win0_1.index t 1 = 0 ∧ win0_1.index t 2 = 0 ∧ win0_2.index t 0 = t.val ∧ win0_2.index t 1 = 0
    ∧ win0_3.index t 0 = t.val ∧ win0_3.index t 1 = 0 ∧ win0_4.index t 0 = t.val ∧ win0_4.index t 1 = 0
    ∧ win0_5.index t 0 = 0 ∧ win0_5.index t 1 = 0 ∧ win0_6.index t 0 = t.val ∧ win0_6.index t 1 = 0 :=
  (by decide +kernel : ∀ t : Fin grid0.N, win0_0.index t 0 = t.val ∧ win0_0.index t 1 = 0 ∧ win0_1.index t 0 = t.val / 8
    ∧ win0_1.index t 1 = 0 ∧ win0_1.index t 2 = 0 ∧ win0_2.index t 0 = t.val ∧ win0_2.index t 1 = 0
    ∧ win0_3.index t 0 = t.val ∧ win0_3.index t 1 = 0 ∧ win0_4.index t 0 = t.val ∧ win0_4.index t 1 = 0
    ∧ win0_5.index t 0 = 0 ∧ win0_5.index t 1 = 0 ∧ win0_6.index t 0 = t.val ∧ win0_6.index t 1 = 0)

/-- The grid has 64 points: one row block each. -/
theorem tlt (t : Fin cfg0.N) : t.val < 64 := t.isLt

/-- The array row that row `r` of point `t`'s blocks stands for. -/
abbrev row (t : Fin cfg0.N) (r : Fin 512) : Fin 32768 := ⟨t.val * 512 + r.val, by have := tlt t; omega⟩
/-- A point's batch entry. -/
abbrev bat (t : Fin cfg0.N) : Fin 8 := ⟨t.val / 8, by have := tlt t; omega⟩
/-- The place in its sequence that row `r` of a point's blocks stands for. -/
abbrev tok (t : Fin cfg0.N) (r : Fin 512) : Fin 4096 := ⟨t.val % 8 * 512 + r.val, by omega⟩

/-- The input's block at a point. -/
theorem blk0 (c : Dev nD) (t : Fin cfg0.N) (r : Fin 512) (j : Fin 2048) :
    (iblk m c 0 t : Vec Ideal S512x2048 .f32) (ix2 r j) = m ((c : Thread nD τ).loc main_arg0) (ix3 (bat t) (tok t r) j) := by
  obtain ⟨h0, h1, -⟩ := idx_rows t
  have hV : V m c main_v0 (ix2 (row t r) j) = m ((c : Thread nD τ).loc main_arg0) (ix3 (bat t) (tok t r) j) := by
    unfold V
    after_reads_at
    refine congrArg (m (c, Proc.tc.devRef main_arg0)) ?_
    have := tlt t
    congr 1 <;> apply Fin.ext <;> simp only [] <;> omega
  rw [← hV]
  unfold iblk
  rw [View.read_apply]
  show V m c main_v0 _ = V m c main_v0 _
  congr 1
  funext a
  apply Fin.ext
  match a with
  | ⟨0, _⟩ => show win0_0.index t 0 * 512 + 1 * r.val = t.val * 512 + r.val; rw [h0]; omega
  | ⟨1, _⟩ => show win0_0.index t 1 * 2048 + 1 * j.val = j.val; rw [h1]; omega

/-- The modulation's block at a point: nine rows of its batch entry. -/
theorem blk1 (c : Dev nD) (t : Fin cfg0.N) (q : Fin 9) (j : Fin 2048) :
    (iblk m c 1 t : Vec Ideal S1x9x2048 .f32) (ix3 0 q j) = m ((c : Thread nD τ).loc main_arg1) (ix2 (bat t) ⟨q.val * 2048 + j.val, by omega⟩) := by
  obtain ⟨-, -, h0, h1, h2, -⟩ := idx_rows t
  have hV : V m c main_v1 (ix3 (bat t) q j) = m ((c : Thread nD τ).loc main_arg1) (ix2 (bat t) ⟨q.val * 2048 + j.val, by omega⟩) := by
    unfold V
    after_reads_at
  rw [← hV]
  unfold iblk
  rw [View.read_apply]
  show V m c main_v1 _ = V m c main_v1 _
  congr 1
  funext a
  apply Fin.ext
  match a with
  | ⟨0, _⟩ => show win0_1.index t 0 * 1 + 1 * 0 = t.val / 8; rw [h0]; omega
  | ⟨1, _⟩ => show win0_1.index t 1 * 9 + 1 * q.val = q.val; rw [h1]; omega
  | ⟨2, _⟩ => show win0_1.index t 2 * 2048 + 1 * j.val = j.val; rw [h2]; omega

/-- The first mixer's block at a point. -/
theorem blk2 (c : Dev nD) (t : Fin cfg0.N) (r : Fin 512) (j : Fin 512) :
    (iblk m c 2 t : Vec Ideal S512x512 .bf16) (ix2 r j) = m ((c : Thread nD τ).loc main_arg2) (ix3 (bat t) (tok t r) j) := by
  obtain ⟨-, -, -, -, -, h0, h1, -⟩ := idx_rows t
  have hV : V m c main_v2 (ix2 (row t r) j) = m ((c : Thread nD τ).loc main_arg2) (ix3 (bat t) (tok t r) j) := by
    unfold V
    after_reads_at
    refine congrArg (m (c, Proc.tc.devRef main_arg2)) ?_
    have := tlt t
    congr 1 <;> apply Fin.ext <;> simp only [] <;> omega
  rw [← hV]
  unfold iblk
  rw [View.read_apply]
  show V m c main_v2 _ = V m c main_v2 _
  congr 1
  funext a
  apply Fin.ext
  match a with
  | ⟨0, _⟩ => show win0_2.index t 0 * 512 + 1 * r.val = t.val * 512 + r.val; rw [h0]; omega
  | ⟨1, _⟩ => show win0_2.index t 1 * 512 + 1 * j.val = j.val; rw [h1]; omega

/-- The second mixer's block at a point. -/
theorem blk3 (c : Dev nD) (t : Fin cfg0.N) (r : Fin 512) (j : Fin 1024) :
    (iblk m c 3 t : Vec Ideal S512x1024 .bf16) (ix2 r j) = m ((c : Thread nD τ).loc main_arg3) (ix3 (bat t) (tok t r) j) := by
  obtain ⟨-, -, -, -, -, -, -, h0, h1, -⟩ := idx_rows t
  have hV : V m c main_v3 (ix2 (row t r) j) = m ((c : Thread nD τ).loc main_arg3) (ix3 (bat t) (tok t r) j) := by
    unfold V
    after_reads_at
    refine congrArg (m (c, Proc.tc.devRef main_arg3)) ?_
    have := tlt t
    congr 1 <;> apply Fin.ext <;> simp only [] <;> omega
  rw [← hV]
  unfold iblk
  rw [View.read_apply]
  show V m c main_v3 _ = V m c main_v3 _
  congr 1
  funext a
  apply Fin.ext
  match a with
  | ⟨0, _⟩ => show win0_3.index t 0 * 512 + 1 * r.val = t.val * 512 + r.val; rw [h0]; omega
  | ⟨1, _⟩ => show win0_3.index t 1 * 1024 + 1 * j.val = j.val; rw [h1]; omega

/-- The third mixer's block at a point. -/
theorem blk4 (c : Dev nD) (t : Fin cfg0.N) (r : Fin 512) (j : Fin 512) :
    (iblk m c 4 t : Vec Ideal S512x512 .bf16) (ix2 r j) = m ((c : Thread nD τ).loc main_arg4) (ix3 (bat t) (tok t r) j) := by
  obtain ⟨-, -, -, -, -, -, -, -, -, h0, h1, -⟩ := idx_rows t
  have hV : V m c main_v4 (ix2 (row t r) j) = m ((c : Thread nD τ).loc main_arg4) (ix3 (bat t) (tok t r) j) := by
    unfold V
    after_reads_at
    refine congrArg (m (c, Proc.tc.devRef main_arg4)) ?_
    have := tlt t
    congr 1 <;> apply Fin.ext <;> simp only [] <;> omega
  rw [← hV]
  unfold iblk
  rw [View.read_apply]
  show V m c main_v4 _ = V m c main_v4 _
  congr 1
  funext a
  apply Fin.ext
  match a with
  | ⟨0, _⟩ => show win0_4.index t 0 * 512 + 1 * r.val = t.val * 512 + r.val; rw [h0]; omega
  | ⟨1, _⟩ => show win0_4.index t 1 * 512 + 1 * j.val = j.val; rw [h1]; omega

/-- The weights' block at a point is the whole array. -/
theorem blk5 (c : Dev nD) (t : Fin cfg0.N) (k : Fin 2048) (j : Fin 2048) :
    (iblk m c 5 t : Vec Ideal S2048x2048 .bf16) (ix2 k j) = m ((c : Thread nD τ).loc main_arg5) (ix2 k j) := by
  obtain ⟨-, -, -, -, -, -, -, -, -, -, -, h0, h1, -⟩ := idx_rows t
  have hV : V m c main_v5 (ix2 k j) = m ((c : Thread nD τ).loc main_arg5) (ix2 k j) := by
    unfold V
    after_reads_at
  rw [← hV]
  unfold iblk
  rw [View.read_apply]
  show V m c main_v5 _ = V m c main_v5 _
  congr 1
  funext a
  apply Fin.ext
  match a with
  | ⟨0, _⟩ => show win0_5.index t 0 * 2048 + 1 * k.val = k.val; rw [h0]; omega
  | ⟨1, _⟩ => show win0_5.index t 1 * 2048 + 1 * j.val = j.val; rw [h1]; omega

/-- The zero offsets, as a constant function. -/
theorem hz : (![0, 0] : Fin 2 → Nat) = fun _ => 0 := funext fun a => by fin_cases a <;> rfl

/-- What a point leaves in the output's block, at a row and a column, from the input blocks. -/
theorem out_apply (x0 : Vec Ideal S512x2048 .f32) (x1 : Vec Ideal S1x9x2048 .f32) (x2 : Vec Ideal S512x512 .bf16)
    (x3 : Vec Ideal S512x1024 .bf16) (x4 : Vec Ideal S512x512 .bf16) (x5 : Vec Ideal S2048x2048 .bf16) (r : Fin 512) (j : Fin 2048) :
    out0_6 x0 x1 x2 x3 x4 x5 (ix2 r j) = x0 (ix2 r j) + (1 + x1 (ix3 0 5 j)) *
      ((∑ k : Fin 512, x2 (ix2 r k) * x5 (ix2 (⟨k.val, by omega⟩ : Fin 2048) j))
        + (∑ k : Fin 1024, x3 (ix2 r k) * x5 (ix2 (⟨512 + k.val, by omega⟩ : Fin 2048) j))
        + ∑ k : Fin 512, x4 (ix2 r k) * x5 (ix2 (⟨1536 + k.val, by omega⟩ : Fin 2048) j)) := by
  unfold out0_6
  rw [View.canon_unit_zero hz, pay_apply]
  pointwise

/-- A sum over the joined axis, by its three parts. -/
theorem sum_parts (f : Fin 2048 → EReal) : ∑ k : Fin 2048, f k = (∑ k : Fin 512, f ⟨k.val, by omega⟩)
    + (∑ k : Fin 1024, f ⟨512 + k.val, by omega⟩) + ∑ k : Fin 512, f ⟨1536 + k.val, by omega⟩ := by
  have h1 := Fin.sum_univ_add (a := 1536) (b := 512) f
  have h2 := Fin.sum_univ_add (a := 512) (b := 1024) fun k => f (Fin.castAdd 512 k)
  rw [show (∑ k : Fin 2048, f k) = ∑ k : Fin (1536 + 512), f k from rfl, h1,
    show (∑ k : Fin 1536, f (Fin.castAdd 512 k)) = ∑ k : Fin (512 + 1024), f (Fin.castAdd 512 k) from rfl, h2]
  rfl

open Cert.OutRefIdeal.Read in
/-- The reference's result at a row and a column: the input plus the gate times one product over the joined heads. -/
theorem ref_apply (x0 : Vec Ideal Cert.OutRefIdeal.S8x4096x2048 .f32) (x1 : Vec Ideal Cert.OutRefIdeal.S8x18432 .f32)
    (x2 : Vec Ideal Cert.OutRefIdeal.S8x4096x512 .bf16) (x3 : Vec Ideal Cert.OutRefIdeal.S8x4096x1024 .bf16)
    (x4 : Vec Ideal Cert.OutRefIdeal.S8x4096x512 .bf16) (x5 : Vec Ideal Cert.OutRefIdeal.S2048x2048 .f32)
    (b : Fin 8) (s : Fin 4096) (r : Fin 32768) (hr : r.val = b.val * 4096 + s.val) (j : Fin 2048) :
    val_main_v20 (F := Ideal) x0 x1 x2 x3 x4 x5 (ix2 r j) = x0 (ix3 b s j) + (1 + x1 (ix2 b ⟨10240 + j.val, by omega⟩)) *
      ((∑ k : Fin 512, x2 (ix3 b s k) * x5 (ix2 (⟨k.val, by omega⟩ : Fin 2048) j))
        + (∑ k : Fin 1024, x3 (ix3 b s k) * x5 (ix2 (⟨512 + k.val, by omega⟩ : Fin 2048) j))
        + ∑ k : Fin 512, x4 (ix3 b s k) * x5 (ix2 (⟨1536 + k.val, by omega⟩ : Fin 2048) j)) := by
  have hb : (⟨r.val / 4096, by omega⟩ : Fin 8) = b := Fin.ext (by show r.val / 4096 = b.val; omega)
  have hs : (⟨r.val % 4096, by omega⟩ : Fin 4096) = s := Fin.ext (by show r.val % 4096 = s.val; omega)
  unfold val_main_v20 val_main_v19 val_main_v18 val_main_v17 val_main_v16 val_main_v15 val_main_v14 val_main_v13 val_main_v12
    val_main_v11 val_main_v10 val_main_v9 val_main_v5 val_main_cst
  pointwise
  rw [sum_parts]
  simp only [hb, hs]
  refine congrArg (fun z : EReal => x0 (ix3 b s j) + (1 + x1 (ix2 b ⟨10240 + j.val, by omega⟩)) * z) ?_
  refine congrArg₂ (· + ·) (congrArg₂ (· + ·) ?_ ?_) ?_ <;> refine Finset.sum_congr rfl fun k _ => ?_
  · rw [dif_pos k.isLt]
  · have := k.isLt
    rw [dif_neg (by omega), dif_pos (by omega)]
    congr 3
    apply Fin.ext; show _ - _ = _; omega
  · have := k.isLt
    rw [dif_neg (by omega), dif_neg (by omega)]
    congr 3
    apply Fin.ext; show _ - _ - _ = _; omega

/-- The kernel's result array is the reference's result of the same arguments. -/
theorem final (c : Dev nD) : (dats m 0 c).arrAt 6 cfg0.N = Cert.OutRefIdeal.Read.val_main_v20 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t hf y => ?_
  idx_vars y
  obtain ⟨-, -, -, -, -, -, -, -, -, -, -, -, -, h0, h1⟩ := idx_rows t
  have he : ((cfg0.win 6).blk t).view.emb (ix2 y0 y1) = (ix2 (row t y0) y1 : S32768x2048.Idx) := by
    funext a
    apply Fin.ext
    match a with
    | ⟨0, _⟩ => show win0_6.index t 0 * 512 + 1 * y0.val = t.val * 512 + y0.val; rw [h0]; omega
    | ⟨1, _⟩ => show win0_6.index t 1 * 2048 + 1 * y1.val = y1.val; rw [h1]; omega
  refine Eq.trans ?_ (congrArg (Cert.OutRefIdeal.Read.val_main_v20 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))) he.symm)
  rw [ref_apply _ _ _ _ _ _ (bat t) (tok t y0) (row t y0) (by have := tlt t; show t.val * 512 + y0.val = t.val / 8 * 4096 + (t.val % 8 * 512 + y0.val); omega)]
  show (dats m 0 c).after 6 t (ix2 y0 y1 : S512x2048.Idx) = _
  rw [after0_6, out_apply]
  simp only [blk0, blk1, blk2, blk3, blk4, blk5]
  rfl

end Cert.OutIdeal.Hand

end
-- ==== Proof.OutClaim.lean ====
module

public import proofs.«01_k».proof.Defs
public import proofs.«01_k».proof.Proof.OutValue
public import proofs.«01_k».proof.Proof.Gen.Out.Frame
public import Idealize.ShloMosaic.Lib.Quiescent

@[expose] public section

set_option maxRecDepth 16384

noncomputable section

namespace Cert.OutIdeal.Hand

open Idealize.ShloMosaic Idealize.ShloMosaic.TcCoe Idealize.SL.Sem

/-- The output projection's kernel leaves its arguments as launched. -/
theorem quiet : quiescent_Out := fun m ρ _ => Cert.Out.Gen.frame m ρ

/-- So does its idealization. -/
theorem quietIdeal : quiescent_OutIdeal := fun m ρ _ => Cert.OutIdeal.Gen.frame m ρ

/-- So does the reference. -/
theorem quietRef : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- Read over the extended reals, the output projection's kernel and its reference end with equal results. -/
theorem equal : algebraic_OutIdeal_OutRefIdeal := by
  intro m ρ m' ρ' _ hag
  refine ⟨fun c => _, (θ_run _ _ _).mono (fun _ h c => ⟨(h c).1.trans (final m c), (h c).2⟩) (Cert.OutIdeal.Value.run_blocks m ρ),
    (θ_run _ _ _).mono (fun _ h c => ⟨(h c).1.trans ?_, (h c).2⟩) (Cert.OutRefIdeal.Value.run (F := Ideal) m' ρ')⟩
  obtain ⟨e0, e1, e2, e3, e4, e5⟩ := hag c
  rw [Cert.OutRefIdeal.Read.val_main_v20_eq, e0, e1, e2, e3, e4, e5]

end Cert.OutIdeal.Hand

end
-- ==== Proof.SbRun.lean ====
module

public import proofs.«01_k».proof.Proof.Gen.SbIdeal.Value
public import Idealize.ShloMosaic.Lib.Pointwise
public import Idealize.ShloMosaic.Lib.ValueIdx
public import Idealize.ShloMosaic.Lib.Claim
public import Idealize.ShloMosaic.Lib.VecWindow
public import Idealize.ShloMosaic.Lib.Pipeline.ValueKit
public import Idealize.ShloMosaic.Lib.StableHlo.ReadAt
public import Idealize.ShloMosaic.Lib.Pipeline.ReadBack

@[expose] public section

set_option maxRecDepth 16384

noncomputable section

namespace Cert.SbIdeal.Hand

open Cert.SbIdeal Cert.SbIdeal.Gen Idealize.ShloMosaic Idealize.ShloMosaic.TcCoe Idealize.SL.Sem
open Idealize.ShloMosaic.Pipeline (Dat)

/-- The 256 keys of block `n`, cut from a head's 4096 keys. -/
def keys (x1 : Vec Ideal S1x4096x128 .bf16) (n : ℕ) : Vec Ideal S1x256x128 .bf16 :=
  fun y => x1 (ix3 0 ⟨(256 * n + (y 1).val) % 4096, Nat.mod_lt _ (by omega)⟩ (y 2))

/-- The values of key block `n`, cut from a head's sixteen blocks of values. -/
def vals (x2 : Vec Ideal S1x16x128x256 .bf16) (n : ℕ) : Vec Ideal S1x1x128x256 .bf16 :=
  fun y => x2 (ix4 0 ⟨n % 16, Nat.mod_lt _ (by omega)⟩ (y 2) (y 3))

/-- A load of 256 rows of the keys at row `256 n` reads block `n`. -/
theorem read_keys {κ : Kind} {sp : Space} (arg4 : Memref sig κ sp S1x4096x128 .bf16) (harg4 : arg4.IsWhole)
    (x1 : Vec Ideal S1x4096x128 .bf16) (n : ℕ) (hn : n < 16) {off : Fin 3 → ℕ}
    (inb : ∀ a, off a + S1x256x128.size a ≤ S1x4096x128.size a) (h : off = ![0, 256 * n, 0]) :
    View.readAt (Elt Ideal) arg4.view (Rect.unit (s := S1x4096x128) off S1x256x128.size inb).toLoadRect (harg4.unread x1) = keys x1 n := by
  subst h
  rw [View.readAt_eq_ld, harg4.read_unread]
  funext y
  unfold keys
  show x1 _ = x1 _
  congr 1
  funext a
  apply Fin.ext
  have h1 : (y 1).val < 256 := (y 1).isLt
  match a with
  | ⟨0, _⟩ => show 0 + 1 * (y 0).val = 0; have : (y 0).val < 1 := (y 0).isLt; omega
  | ⟨1, _⟩ => show 256 * n + 1 * (y 1).val = (256 * n + (y 1).val) % 4096; omega
  | ⟨2, _⟩ => show 0 + 1 * (y 2).val = (y 2).val; omega

/-- A load of one block of the values at block `n` reads it. -/
theorem read_vals {κ : Kind} {sp : Space} (arg5 : Memref sig κ sp S1x16x128x256 .bf16) (harg5 : arg5.IsWhole)
    (x2 : Vec Ideal S1x16x128x256 .bf16) (n : ℕ) (hn : n < 16) {off : Fin 4 → ℕ}
    (inb : ∀ a, off a + S1x1x128x256.size a ≤ S1x16x128x256.size a) (h : off = ![0, n, 0, 0]) :
    View.readAt (Elt Ideal) arg5.view (Rect.unit (s := S1x16x128x256) off S1x1x128x256.size inb).toLoadRect (harg5.unread x2) = vals x2 n := by
  subst h
  rw [View.readAt_eq_ld, harg5.read_unread]
  funext y
  unfold vals
  show x2 _ = x2 _
  congr 1
  funext a
  apply Fin.ext
  have h1 : (y 1).val < 1 := (y 1).isLt
  match a with
  | ⟨0, _⟩ => show 0 + 1 * (y 0).val = 0; have : (y 0).val < 1 := (y 0).isLt; omega
  | ⟨1, _⟩ => show n + 1 * (y 1).val = n % 16; omega
  | ⟨2, _⟩ => show 0 + 1 * (y 2).val = (y 2).val; omega
  | ⟨3, _⟩ => show 0 + 1 * (y 3).val = (y 3).val; omega

/-- The running logarithm and the weighted values after block `b`, which holds the queries, and the `n` blocks before it. -/
def carry (x0 : Vec Ideal S1x256x128 .bf16) (x1 : Vec Ideal S1x4096x128 .bf16) (x2 : Vec Ideal S1x16x128x256 .bf16) (b : ℕ) :
    ℕ → Vec Ideal S1x256 .f32 × Vec Ideal S128x256 .f32
  | 0 => (k0_pay25 (iota .tc S256x256 32 [0] iota_S256x256_d0_w32) (iota .tc S256x256 32 [1] iota_S256x256_d1_w32)
        (k0_pay20 x0 (keys x1 b)) (k0_pay16 (F := Ideal)),
      k0_pay24 (iota .tc S256x256 32 [0] iota_S256x256_d0_w32) (iota .tc S256x256 32 [1] iota_S256x256_d1_w32) k0_pay15
        (k0_pay20 x0 (keys x1 b)) (k0_pay21 x0 (keys x1 b)) (k0_pay16 (F := Ideal)) (k0_pay17 (F := Ideal)) (vals x2 b))
  | n + 1 =>
    (k0_pay2 (k0_pay8 (k0_pay14 x0) (keys x1 (b - 1 - n))) (carry x0 x1 x2 b n).1,
      k0_pay1 (k0_pay9 (k0_pay14 x0) k0_pay15 (keys x1 (b - 1 - n)) (carry x0 x1 x2 b n).1 (carry x0 x1 x2 b n).2
        (vals x2 (b - 1 - n))))

/-- The key blocks before the query block number its own block. -/
theorem trips1 (i : grid0.Coords) : Scf.trips (k0_t1_loop i).lb (k0_t1_loop i).ub (k0_t1_loop i).st = (i 2).val := by
  revert i
  decide +kernel

/-- The loop's remainder has no trips. -/
theorem trips2 (i : grid0.Coords) : Scf.trips (k0_t2_loop i).lb (k0_t2_loop i).ub (k0_t2_loop i).st = 0 :=
  Nat.le_zero.1 (k0_t2_abs i).2.1

/-- The block a trip reads, as the program's words count it down. -/
theorem word_at : ∀ a k : Fin 16, k.val < a.val →
    (Scalar.indexCast (Scalar.subi (Scalar.subi (BitVec.ofNat 32 a.val) 1#32) (Scf.iv (0#32) (1#32) k.val))).toNat = a.val - 1 - k.val
    ∧ (Scalar.indexCast (Scalar.muli (Scalar.subi (Scalar.subi (BitVec.ofNat 32 a.val) 1#32) (Scf.iv (0#32) (1#32) k.val)) 256#32)).toNat = 256 * (a.val - 1 - k.val) := by
  decide +kernel

/-- A trip reads the keys of the block before the ones read. -/
theorem off3_eq (i : grid0.Coords) (k : Fin (k0_t1_loop i).trips) : k0_off3 i k = ![0, 256 * ((i 2).val - 1 - k.val), 0] := by
  have hk : k.val < (i 2).val := lt_of_lt_of_eq k.isLt (trips1 i)
  have hi : (i 2).val < 16 := (i 2).isLt
  have h := (word_at ⟨(i 2).val, hi⟩ ⟨k.val, by omega⟩ hk).2
  funext a
  match a with
  | ⟨0, _⟩ => rfl
  | ⟨1, _⟩ => exact h
  | ⟨2, _⟩ => rfl

/-- And its values. -/
theorem off4_eq (i : grid0.Coords) (k : Fin (k0_t1_loop i).trips) : k0_off4 i k = ![0, (i 2).val - 1 - k.val, 0, 0] := by
  have hk : k.val < (i 2).val := lt_of_lt_of_eq k.isLt (trips1 i)
  have hi : (i 2).val < 16 := (i 2).isLt
  have h := (word_at ⟨(i 2).val, hi⟩ ⟨k.val, by omega⟩ hk).1
  funext a
  match a with
  | ⟨0, _⟩ => rfl
  | ⟨1, _⟩ => exact h
  | ⟨2, _⟩ => rfl
  | ⟨3, _⟩ => rfl

/-- One trip of the loop over the earlier key blocks: what it stores into the two scratch buffers. -/
theorem trip_stores (𝒱 : Variants) (c : Dev nD) (bd : Option 𝒱.V) (i : grid0.Coords)
    (arg3 : Memref sig .tc .vmem S1x256x128 .bf16) (harg3 : arg3.IsWhole)
    (arg4 : Memref sig .tc .vmem S1x4096x128 .bf16) (harg4 : arg4.IsWhole)
    (arg5 : Memref sig .tc .vmem S1x16x128x256 .bf16) (harg5 : arg5.IsWhole)
    (arg6 : Memref sig .tc .vmem S1x256x128 .bf16) (harg6 : arg6.IsWhole)
    (arg7 : Memref sig .tc .vmem S1x256 .f32) (harg7 : arg7.IsWhole)
    (arg8 : Memref sig .tc .vmem S128x256 .f32) (harg8 : arg8.IsWhole)
    (w v : BitVec 32) (v1 : Vec Ideal S256x128 .bf16) (v8 : Vec Ideal S256x256 .bf16)
    (x1 : Vec Ideal S1x4096x128 .bf16) (x2 : Vec Ideal S1x16x128x256 .bf16)
    (k : Fin (k0_t1_loop i).trips)
    (f7 : BufTy.Contents (Elt Ideal) arg7.view.ty) (f8 : BufTy.Contents (Elt Ideal) arg8.view.ty) :
    tripL_k0_t1 𝒱 c bd i arg3 harg3 arg4 harg4 arg5 harg5 arg6 harg6 arg7 harg7 arg8 harg8 w v1 v8 v
        (harg4.unread x1) (harg5.unread x2) k f7 f8
      = ([⟨Rect.unit ![0, 0] S1x256.size inb_S1x256_S1x256_0_0,
            k0_pay2 (k0_pay8 v1 (keys x1 ((i 2).val - 1 - k.val))) (arg7.view.read (Elt Ideal) f7)⟩],
          [⟨Rect.unit ![0, 0] S128x256.size inb_S128x256_S128x256_0_0,
            k0_pay1 (k0_pay9 v1 v8 (keys x1 ((i 2).val - 1 - k.val)) (arg7.view.read (Elt Ideal) f7) (arg8.view.read (Elt Ideal) f8)
              (vals x2 ((i 2).val - 1 - k.val)))⟩]) := by
  have hk : (i 2).val - 1 - k.val < 16 := by have : (i 2).val < 16 := (i 2).isLt; omega
  have e1 := read_keys arg4 harg4 x1 _ hk (k0_off3_inb i k) (off3_eq i k)
  have e2 := read_vals arg5 harg5 x2 _ hk (k0_off4_inb i k) (off4_eq i k)
  have e7 := View.readAt_full arg7.view f7 (off := ![0, 0]) inb_S1x256_S1x256_0_0
  have e8 := View.readAt_full arg8.view f8 (off := ![0, 0]) inb_S128x256_S128x256_0_0
  rw [← e1, ← e2, ← e7, ← e8]
  unfold tripL_k0_t1 trip_k0_t1
  rfl

/-- After `n` trips the two scratch buffers hold the running state after `n` earlier key blocks. -/
theorem loop_state (𝒱 : Variants) (c : Dev nD) (bd : Option 𝒱.V) (i : grid0.Coords)
    (arg3 : Memref sig .tc .vmem S1x256x128 .bf16) (harg3 : arg3.IsWhole)
    (arg4 : Memref sig .tc .vmem S1x4096x128 .bf16) (harg4 : arg4.IsWhole)
    (arg5 : Memref sig .tc .vmem S1x16x128x256 .bf16) (harg5 : arg5.IsWhole)
    (arg6 : Memref sig .tc .vmem S1x256x128 .bf16) (harg6 : arg6.IsWhole)
    (arg7 : Memref sig .tc .vmem S1x256 .f32) (harg7 : arg7.IsWhole)
    (arg8 : Memref sig .tc .vmem S128x256 .f32) (harg8 : arg8.IsWhole)
    (w v : BitVec 32)
    (x0 : Vec Ideal S1x256x128 .bf16) (x1 : Vec Ideal S1x4096x128 .bf16) (x2 : Vec Ideal S1x16x128x256 .bf16)
    (G7 : BufTy.Contents (Elt Ideal) arg7.view.ty) (G8 : BufTy.Contents (Elt Ideal) arg8.view.ty)
    (h7 : arg7.view.read (Elt Ideal) G7 = (carry x0 x1 x2 (i 2).val 0).1)
    (h8 : arg8.view.read (Elt Ideal) G8 = (carry x0 x1 x2 (i 2).val 0).2)
    (n : ℕ) (hn : n ≤ (k0_t1_loop i).trips) :
    let P := pb_k0_t1 𝒱 c bd i arg3 harg3 arg4 harg4 arg5 harg5 arg6 harg6 arg7 harg7 arg8 harg8 w (k0_pay14 x0) k0_pay15 v
        (harg4.unread x1) (harg5.unread x2) G7 G8 n
    arg7.view.read (Elt Ideal) (arg7.view.writes (Elt Ideal) G7 P.1) = (carry x0 x1 x2 (i 2).val n).1
      ∧ arg8.view.read (Elt Ideal) (arg8.view.writes (Elt Ideal) G8 P.2) = (carry x0 x1 x2 (i 2).val n).2 := by
  induction n with
  | zero => exact ⟨h7, h8⟩
  | succ n ih =>
    obtain ⟨i7, i8⟩ := ih (by omega)
    have hs := pb_k0_t1_succ 𝒱 c bd i arg3 harg3 arg4 harg4 arg5 harg5 arg6 harg6 arg7 harg7 arg8 harg8 w (k0_pay14 x0) k0_pay15 v
        (harg4.unread x1) (harg5.unread x2) G7 G8 ⟨n, hn⟩
    rw [trip_stores, i7, i8] at hs
    intro P
    have hP : P = _ := hs
    rw [hP]
    refine ⟨?_, ?_⟩
    · exact View.read_writes_full _ _ _ _ _
    · exact View.read_writes_full _ _ _ _ _

variable (m : (ℓ : Loc nD τ sig) → Buf (Elt Ideal) ℓ)

/-- A load of a whole buffer after no stores of one loop and two earlier runs of stores reads what the later run leaves over the earlier one. -/
theorem readCov_append {κ : Kind} {sp : Space} {s : Shape} {e : EltTy} (v : View sig κ sp s e) (L₀ L L' : List (View.Piece (Elt Ideal) s e))
    (h : L₀ = []) {off : Fin s.rank → ℕ} (inb : ∀ a, off a + s.size a ≤ s.size a) :
    v.readCov (L₀ ++ (L ++ L')) (Rect.unit off s.size inb).toLoadRect
      = v.read (Elt Ideal) (v.writes (Elt Ideal) (v.writes (Elt Ideal) v.junk L') L) := by
  subst h
  show v.readAt (Elt Ideal) _ (v.writes (Elt Ideal) v.junk (L ++ L')) = _
  rw [View.readAt_full, View.writes_append]

/-- What a point stores into its output block: the weighted values after its own block and the earlier ones, transposed. -/
theorem outs_eq (c : Dev nD) (t : Fin cfg0.N) :
    outsAt0 m c t = k0_pay5 (carry (iblk m c 0 t) (iblk m c 1 t) (iblk m c 2 t) (grid0.coords t 2).val (grid0.coords t 2).val).2 := by
  have hn : (grid0.coords t 2).val < 16 := (grid0.coords t 2).isLt
  have e0 : View.readAt (Elt Ideal) (ms0_0 t).view (Rect.unit ![0, 0, 0] S1x256x128.size inb_S1x256x128_S1x256x128_0_0_0).toLoadRect
      ((hs0_0 t).unread (iblk m c 0 t)) = iblk m c 0 t := by
    rw [View.readAt_full, (hs0_0 t).read_unread]
  have e1 := read_keys (ms0_1 t) (hs0_1 t) (iblk m c 1 t) _ hn (k0_off1_inb _) (k0_off1_eq (grid0.coords t))
  have e2 := read_vals (ms0_2 t) (hs0_2 t) (iblk m c 2 t) _ hn (k0_off2_inb _) (k0_off2_eq (grid0.coords t))
  have h47 : kernelRun0_A.sl.v47 (F := Ideal) c scM0_0 = k0_pay16 (F := Ideal) := by
    unfold kernelRun0_A.sl.v47 kernelRun0_A.sl.HS0_1
    exact View.readCov_full (s := S1x256) _ _ _ _ _
  have h53 : kernelRun0_A.sl.v53 (F := Ideal) c scM0_1 = k0_pay17 (F := Ideal) := by
    unfold kernelRun0_A.sl.v53 kernelRun0_A.sl.HS1_1
    exact View.readCov_full (s := S128x256) _ _ _ _ _
  have hr : kernelRun0_A.sl.r c (ms0_0 t) (hs0_0 t) (iblk m c 0 t) = k0_pay14 (iblk m c 0 t) := congrArg k0_pay14 e0
  have hr1 : kernelRun0_A.sl.r_1 c (grid0.coords t) (ms0_0 t) (hs0_0 t) (ms0_1 t) (hs0_1 t) (iblk m c 0 t) (iblk m c 1 t)
      = k0_pay20 (iblk m c 0 t) (keys (iblk m c 1 t) (grid0.coords t 2).val) := congrArg₂ k0_pay20 e0 e1
  have hr2 : kernelRun0_A.sl.r_2 c (grid0.coords t) (ms0_0 t) (hs0_0 t) (ms0_1 t) (hs0_1 t) (iblk m c 0 t) (iblk m c 1 t)
      = k0_pay21 (iblk m c 0 t) (keys (iblk m c 1 t) (grid0.coords t 2).val) := congrArg₂ k0_pay21 e0 e1
  have G7 : scM0_0.view.read (Elt Ideal) (scM0_0.view.writes (Elt Ideal) scM0_0.view.junk
      (kernelRun0_A.sl.HS0_2 c (grid0.coords t) (ms0_0 t) (hs0_0 t) (ms0_1 t) (hs0_1 t) scM0_0 (iblk m c 0 t) (iblk m c 1 t)))
      = (carry (iblk m c 0 t) (iblk m c 1 t) (iblk m c 2 t) (grid0.coords t 2).val 0).1 := by
    unfold kernelRun0_A.sl.HS0_2
    refine (View.read_writes_full _ _ _ _ _).trans ?_
    rw [hr1, h47]
    rfl
  have G8 : scM0_1.view.read (Elt Ideal) (scM0_1.view.writes (Elt Ideal) scM0_1.view.junk
      (kernelRun0_A.sl.HS1_2 c (grid0.coords t) (ms0_0 t) (hs0_0 t) (ms0_1 t) (hs0_1 t) (ms0_2 t) (hs0_2 t) scM0_0 scM0_1
        (iblk m c 0 t) (iblk m c 1 t) (iblk m c 2 t)))
      = (carry (iblk m c 0 t) (iblk m c 1 t) (iblk m c 2 t) (grid0.coords t 2).val 0).2 := by
    unfold kernelRun0_A.sl.HS1_2
    refine (View.read_writes_full _ _ _ _ _).trans ?_
    rw [hr1, hr2, h47, h53, e2]
    rfl
  have L := (loop_state Variants.none c none (grid0.coords t) (ms0_0 t) (hs0_0 t) (ms0_1 t) (hs0_1 t) (ms0_2 t) (hs0_2 t)
    (ms0_3 t) (hs0_3 t) scM0_0 (Memref.isWhole_whole _) scM0_1 (Memref.isWhole_whole _) (BitVec.ofNat 32 (grid0.coords t 2).val) 0#32
    (iblk m c 0 t) (iblk m c 1 t) (iblk m c 2 t) _ _ G7 G8 (grid0.coords t 2).val (le_of_eq (trips1 _).symm)).2
  unfold outsAt0 out0_A_3
  unfold kernelRun0_A
  dsimp only
  rw [View.read_writes_full]
  refine congrArg k0_pay5 ?_
  unfold kernelRun0_A.sl.v75
  rw [trips2, trips1, hr]
  exact (readCov_append _ _ _ _ rfl _).trans L

end Cert.SbIdeal.Hand
end
-- ==== Proof.Stick.lean ====
module

public import Idealize.ShloMosaic.PureOps.Ideal

@[expose] public section

noncomputable section

namespace Cert.Stick

open Idealize.ShloMosaic

/-- The logarithm of one plus the exponential of minus a score's magnitude. -/
def soft (z : EReal) : EReal := Ideal.log1p (Ideal.exp (-(max z (-z))))
/-- The logarithm of the part of the stick that a score leaves. -/
def stay (z : EReal) : EReal := -(max z 0) - soft z
/-- The logarithm of the part of the stick that a score takes. -/
def take (z : EReal) : EReal := min z 0 - soft z

/-- The larger of two reals, as a number. -/
theorem max_real (a b : ℝ) : ((max a b : ℝ) : EReal) = max (a : EReal) (b : EReal) := EReal.coe_strictMono.monotone.map_max
/-- The smaller of two reals, as a number. -/
theorem min_real (a b : ℝ) : ((min a b : ℝ) : EReal) = min (a : EReal) (b : EReal) := EReal.coe_strictMono.monotone.map_min

/-- A number: neither infinity. -/
def Num (x : EReal) : Prop := x ≠ ⊤ ∧ x ≠ ⊥

/-- A number is a real's image. -/
theorem Num.real {x : EReal} (h : Num x) : ∃ r : ℝ, x = r := ⟨x.toReal, (EReal.coe_toReal h.1 h.2).symm⟩

/-- A number's `soft` is a number. -/
theorem soft_real {z : EReal} (h : Num z) : ∃ r : ℝ, soft z = r := by
  obtain ⟨x, rfl⟩ := h.real
  refine ⟨Real.log (1 + Real.exp (-(max x (-x)))), ?_⟩
  have e : -(max (x : EReal) (-(x : EReal))) = ((-(max x (-x)) : ℝ) : EReal) := by
    rw [EReal.coe_neg, max_real, EReal.coe_neg]
  have p : ¬ (1 + Real.exp (-(max x (-x))) ≤ 0) := not_le.2 (by positivity)
  unfold soft
  rw [e]
  show Ideal.log ((1 : EReal) + ((Real.exp (-(max x (-x))) : ℝ) : EReal)) = _
  rw [← EReal.coe_one, ← EReal.coe_add]
  show (if _ ≤ 0 then ⊥ else _) = _
  rw [if_neg p]

/-- A number's `stay` is a number. -/
theorem stay_num {z : EReal} (h : Num z) : Num (stay z) := by
  obtain ⟨s, hs⟩ := soft_real h
  obtain ⟨x, rfl⟩ := h.real
  have e : stay (x : EReal) = ((-(max x 0) - s : ℝ) : EReal) := by
    unfold stay
    rw [hs, EReal.coe_sub, EReal.coe_neg, max_real, EReal.coe_zero]
  rw [e]
  exact ⟨EReal.coe_ne_top _, EReal.coe_ne_bot _⟩

/-- `soft` of the opposite score. -/
theorem soft_neg (z : EReal) : soft (-z) = soft z := by
  unfold soft
  rw [neg_neg, max_comm]

/-- Minus the softplus of a number, as it is computed, is the number's `stay`. -/
theorem stay_eq {z : EReal} (h : Num z) : -(max z 0 + soft z) = stay z := by
  obtain ⟨s, hs⟩ := soft_real h
  obtain ⟨x, rfl⟩ := h.real
  unfold stay
  rw [hs, ← EReal.coe_zero, ← max_real, ← EReal.coe_add, ← EReal.coe_neg, ← EReal.coe_neg, ← EReal.coe_sub]
  congr 1
  ring

/-- Minus the softplus of the opposite number is the number's `take`. -/
theorem take_eq {z : EReal} (h : Num z) : -(max (-z) 0 + soft (-z)) = take z := by
  rw [soft_neg]
  obtain ⟨s, hs⟩ := soft_real h
  obtain ⟨x, rfl⟩ := h.real
  unfold take
  rw [hs, ← EReal.coe_zero, ← EReal.coe_neg, ← max_real, ← EReal.coe_add, ← EReal.coe_neg, ← min_real, ← EReal.coe_sub]
  congr 1
  have : max (-x) 0 = -(min x 0) := by
    have := max_neg_neg x 0
    simpa using this
  rw [this]
  ring

variable (z : ℕ → EReal) (q : ℕ)

/-- What key `j` leaves of query `q`'s stick: nothing is taken from the query on. -/
def left (j : ℕ) : EReal := if j < q then stay (z j) else 0

/-- Key `k`'s weight for query `q`: what it takes, after the keys between them. -/
def weight (k : ℕ) : EReal := if k < q then Ideal.exp (take (z k) + ∑ j ∈ Finset.Ico (k + 1) q, stay (z j)) else 0

variable {z q}

/-- Of scores that are numbers, what is left is a number. -/
theorem left_num (hz : ∀ k, Num (z k)) (j : ℕ) : Num (left z q j) := by
  unfold left
  split
  · exact stay_num (hz j)
  · exact ⟨EReal.zero_ne_top, EReal.zero_ne_bot⟩

/-- A number off itself is zero. -/
theorem sub_self_num {x : EReal} (h : Num x) : x - x = 0 := by
  obtain ⟨r, rfl⟩ := h.real
  rw [← EReal.coe_sub, sub_self, EReal.coe_zero]

/-- A number taken off its sum with anything leaves that. -/
theorem add_sub_num {x : EReal} (h : Num x) (y : EReal) : x + y - x = y := by
  rw [sub_eq_add_neg, add_comm x y, add_assoc, ← sub_eq_add_neg, sub_self_num h, add_zero]

/-- Summing what is left past the query adds nothing. -/
theorem sum_left (z : ℕ → EReal) (q k n : ℕ) (hn : q ≤ n) : ∑ j ∈ Finset.Ico (k + 1) n, left z q j = ∑ j ∈ Finset.Ico (k + 1) q, stay (z j) := by
  have e : ∀ j ∈ Finset.Ico (k + 1) q, left z q j = stay (z j) := fun j hj => if_pos (Finset.mem_Ico.1 hj).2
  rw [← Finset.sum_congr rfl e]
  refine (Finset.sum_subset (Finset.Ico_subset_Ico_right hn) fun j hj hj' => if_neg ?_).symm
  rw [Finset.mem_Ico] at hj hj'
  omega

/-- A block of 256 keys, read from its start: the sum over those past row `a`. -/
theorem block_past (S : ℕ → EReal) (n a : ℕ) :
    (∑ c : Fin 256, (if a < c.val then (1 : EReal) else 0) * S (256 * n + c.val)) = ∑ j ∈ Finset.Ico (256 * n + a + 1) (256 * n + 256), S j := by
  have e : ∀ c : Fin 256, (if a < c.val then (1 : EReal) else 0) * S (256 * n + c.val) = (fun c : ℕ => if a < c then S (256 * n + c) else 0) c.val := by
    intro c
    by_cases h : a < c.val <;> simp [h]
  rw [Finset.sum_congr rfl fun c _ => e c, ← Finset.sum_range (fun c : ℕ => if a < c then S (256 * n + c) else 0), ← Finset.sum_filter]
  have f : (Finset.range 256).filter (a < ·) = Finset.Ico (a + 1) 256 := by
    ext c
    simp only [Finset.mem_filter, Finset.mem_range, Finset.mem_Ico]
    omega
  rw [f, Finset.sum_Ico_add S (a + 1) 256 (256 * n)]
  congr 2 <;> omega

/-- The sum over a whole block. -/
theorem block_all (S : ℕ → EReal) (n : ℕ) : (∑ c : Fin 256, S (256 * n + c.val)) = ∑ j ∈ Finset.Ico (256 * n) (256 * n + 256), S j := by
  rw [← Finset.sum_range (fun c : ℕ => S (256 * n + c)), Finset.range_eq_Ico, Finset.sum_Ico_add S 0 256 (256 * n)]
  congr 2 <;> omega

/-- The weight of a key of block `n`: what the rest of the block and the later blocks leave, summed apart. -/
theorem weight_eq (hz : ∀ k, Num (z k)) (n m a : ℕ) (hq : q ≤ m) (hn : 256 * n + 256 ≤ m) (ha : a < 256) :
    (if 256 * n + a < q then Ideal.exp (take (z (256 * n + a))
        + ((∑ c : Fin 256, (if a < c.val then (1 : EReal) else 0) * left z q (256 * n + c.val))
          + ∑ c : Fin 256, (if a < c.val then (1 : EReal) else 0) * (left z q (256 * n + c.val) - left z q (256 * n + c.val)))
        + ∑ j ∈ Finset.Ico (256 * n + 256) m, left z q j) else 0) = weight z q (256 * n + a) := by
  have e : (∑ c : Fin 256, (if a < c.val then (1 : EReal) else 0) * (left z q (256 * n + c.val) - left z q (256 * n + c.val))) = 0 :=
    Finset.sum_eq_zero fun c _ => by rw [sub_self_num (left_num hz _), mul_zero]
  unfold weight
  rw [e, add_zero, block_past (left z q) n a, add_assoc (take _), Finset.sum_Ico_consecutive (left z q) (by omega) hn, sum_left z q _ m hq]

/-- The reference's sum over the later keys, its own taken off. -/
theorem suffix_sub (hz : ∀ k, Num (z k)) (k n : ℕ) (hn : q ≤ n) (hk : k < n) :
    (∑ j ∈ Finset.Ico k n, left z q j) - left z q k = ∑ j ∈ Finset.Ico (k + 1) q, stay (z j) := by
  rw [Finset.sum_eq_sum_Ico_succ_bot hk, add_sub_num (left_num hz k), sum_left z q k n hn]

/-- The signed comparison of two of the sequence's positions. -/
theorem slt_at (a b : ℕ) (ha : a < 4096) (hb : b < 4096) :
    IntOp.cmpi CmpIPredicate.slt (BitVec.ofNat 32 a) (BitVec.ofNat 32 b) = if a < b then 1#1 else 0#1 := by
  have e : ∀ n : ℕ, n < 4096 → (BitVec.ofNat 32 n).toInt = (n : ℤ) := fun n hn => by
    rw [BitVec.toInt_eq_toNat_of_lt (by rw [BitVec.toNat_ofNat]; omega), BitVec.toNat_ofNat, Nat.mod_eq_of_lt (by omega)]
  show BitVec.ofBool (BitVec.slt _ _) = _
  rw [BitVec.slt, e a ha, e b hb]
  by_cases h : a < b <;> simp [h]

/-- The same comparison the other way round. -/
theorem sgt_at (a b : ℕ) (ha : a < 4096) (hb : b < 4096) :
    IntOp.cmpi CmpIPredicate.sgt (BitVec.ofNat 32 b) (BitVec.ofNat 32 a) = if a < b then 1#1 else 0#1 :=
  slt_at a b ha hb

end Cert.Stick
end
-- ==== Proof.SbValue.lean ====
module

public import proofs.«01_k».proof.Proof.SbRun
public import proofs.«01_k».proof.Proof.Stick

@[expose] public section

set_option maxRecDepth 16384

noncomputable section

namespace Cert.SbIdeal.Hand

open Cert.SbIdeal Cert.SbIdeal.Gen Idealize.ShloMosaic Idealize.ShloMosaic.TcCoe Idealize.SL.Sem
open Cert.Stick

/-- A query's score with key `k` of its head. -/
def raw (x0 : Vec Ideal S1x256x128 .bf16) (x1 : Vec Ideal S1x4096x128 .bf16) (r : Fin 256) (k : ℕ) : EReal :=
  ∑ l : Fin 128, x1 (ix3 0 ⟨k % 4096, Nat.mod_lt _ (by omega)⟩ l) * x0 (ix3 0 r l)

/-- Lane `d` of the value at key `k`. -/
def value (x2 : Vec Ideal S1x16x128x256 .bf16) (d : Fin 128) (k : ℕ) : EReal :=
  x2 (ix4 0 ⟨k % 4096 / 256, by omega⟩ d ⟨k % 256, Nat.mod_lt _ (by omega)⟩)

/-- A block of values at a lane. -/
theorem vals_at (x2 : Vec Ideal S1x16x128x256 .bf16) (n : ℕ) (hn : n < 16) (d : Fin 128) (x : Fin 256) :
    vals x2 n (ix4 0 0 d x) = value x2 d (256 * n + x.val) := by
  unfold vals value
  congr 1
  funext a
  apply Fin.ext
  match a with
  | ⟨0, _⟩ => rfl
  | ⟨1, _⟩ => show n % 16 = (256 * n + x.val) % 4096 / 256; omega
  | ⟨2, _⟩ => rfl
  | ⟨3, _⟩ => show x.val = (256 * n + x.val) % 256; omega

/-- A block's scores. -/
theorem pay6_at (x0 : Vec Ideal S1x256x128 .bf16) (x1 : Vec Ideal S1x4096x128 .bf16) (n : ℕ) (j r : Fin 256) :
    k0_pay6 (k0_pay14 x0) (keys x1 n) (ix2 j r) = raw x0 x1 r (256 * n + j.val) := by
  unfold k0_pay6 k0_pay14
  pointwise
  rfl

/-- Their soft parts. -/
theorem pay7_at (x0 : Vec Ideal S1x256x128 .bf16) (x1 : Vec Ideal S1x4096x128 .bf16) (n : ℕ) (j r : Fin 256) :
    k0_pay7 (k0_pay14 x0) (keys x1 n) (ix2 j r) = soft (raw x0 x1 r (256 * n + j.val)) := by
  unfold k0_pay7
  pointwise
  rw [pay6_at]
  unfold soft
  simp
  rfl

/-- What they leave of the stick, as logarithms. -/
theorem pay8_at (x0 : Vec Ideal S1x256x128 .bf16) (x1 : Vec Ideal S1x4096x128 .bf16) (n : ℕ) (j r : Fin 256) :
    k0_pay8 (k0_pay14 x0) (keys x1 n) (ix2 j r) = stay (raw x0 x1 r (256 * n + j.val)) := by
  unfold k0_pay8
  pointwise
  rw [pay6_at, pay7_at]
  unfold stay
  simp

/-- What they take. -/
theorem pay21_at (x0 : Vec Ideal S1x256x128 .bf16) (x1 : Vec Ideal S1x4096x128 .bf16) (n : ℕ) (j r : Fin 256) :
    k0_pay21 x0 (keys x1 n) (ix2 j r) = take (raw x0 x1 r (256 * n + j.val)) := by
  have e : k0_pay18 x0 (keys x1 n) = k0_pay6 (k0_pay14 x0) (keys x1 n) := rfl
  have e' : k0_pay19 x0 (keys x1 n) = k0_pay7 (k0_pay14 x0) (keys x1 n) := rfl
  unfold k0_pay21
  rw [e, e']
  pointwise
  rw [pay6_at, pay7_at]
  unfold take
  simp

/-- The matrix of the later keys. -/
theorem pay15_at (j c : Fin 256) : k0_pay15 (F := Ideal) (ix2 j c) = if j.val < c.val then (1 : EReal) else 0 := by
  unfold k0_pay15
  pointwise
  rw [sgt_at j.val c.val (by omega) (by omega)]
  by_cases h : j.val < c.val
  · rw [if_pos h, if_pos h]
    rfl
  · rw [if_neg h, if_neg h]
    rfl

/-- The sum of what a full block leaves, added on. -/
theorem pay2_at (x0 : Vec Ideal S1x256x128 .bf16) (x1 : Vec Ideal S1x4096x128 .bf16) (n : ℕ) (v : Vec Ideal S1x256 .f32) (r : Fin 256) :
    k0_pay2 (k0_pay8 (k0_pay14 x0) (keys x1 n)) v (ix2 0 r) = v (ix2 0 r) + ∑ j : Fin 256, stay (raw x0 x1 r (256 * n + j.val)) := by
  unfold k0_pay2
  pointwise
  simp only [pay8_at]

/-- The weighted values of a full block, added on. -/
theorem pay9_at (x0 : Vec Ideal S1x256x128 .bf16) (x1 : Vec Ideal S1x4096x128 .bf16) (n : ℕ) (v : Vec Ideal S1x256 .f32)
    (w : Vec Ideal S128x256 .f32) (u : Vec Ideal S1x1x128x256 .bf16) (d : Fin 128) (r : Fin 256) :
    k0_pay1 (k0_pay9 (k0_pay14 x0) k0_pay15 (keys x1 n) v w u) (ix2 d r)
      = w (ix2 d r) + ∑ j : Fin 256, u (ix4 0 0 d j) * Ideal.exp (take (raw x0 x1 r (256 * n + j.val))
        + ((∑ c : Fin 256, (if j.val < c.val then (1 : EReal) else 0) * stay (raw x0 x1 r (256 * n + c.val)))
          + ∑ c : Fin 256, (if j.val < c.val then (1 : EReal) else 0)
            * (stay (raw x0 x1 r (256 * n + c.val)) - stay (raw x0 x1 r (256 * n + c.val))))
        + v (ix2 0 r)) := by
  unfold k0_pay1 k0_pay9
  pointwise
  simp only [pay6_at, pay7_at, pay8_at, pay15_at]
  rfl

/-- The rows before the columns. -/
theorem pay22_at (j r : Fin 256) :
    k0_pay22 (iota .tc S256x256 32 [0] iota_S256x256_d0_w32) (iota .tc S256x256 32 [1] iota_S256x256_d1_w32) (ix2 j r)
      = if j.val < r.val then 1#1 else 0#1 := by
  unfold k0_pay22
  pointwise
  exact slt_at j.val r.val (by omega) (by omega)

/-- What the queries' own block leaves under the mask. -/
theorem pay23_at (x0 : Vec Ideal S1x256x128 .bf16) (x1 : Vec Ideal S1x4096x128 .bf16) (n : ℕ) (j r : Fin 256) :
    k0_pay23 (iota .tc S256x256 32 [0] iota_S256x256_d0_w32) (iota .tc S256x256 32 [1] iota_S256x256_d1_w32)
        (k0_pay20 x0 (keys x1 n)) (ix2 j r)
      = left (raw x0 x1 r) (256 * n + r.val) (256 * n + j.val) := by
  have e : k0_pay20 x0 (keys x1 n) = k0_pay8 (k0_pay14 x0) (keys x1 n) := rfl
  rw [e]
  unfold k0_pay23
  pointwise
  rw [pay22_at, pay8_at]
  unfold left
  by_cases h : j.val < r.val
  · rw [if_pos h, if_pos (by omega)]
    rfl
  · rw [if_neg h, if_neg (by omega)]
    rfl

/-- The sum of what a masked block leaves, added on. -/
theorem pay25_of (a b : IVec S256x256 32) (s : FVec Ideal S256x256 .f32) (v : Vec Ideal S1x256 .f32) (r : Fin 256)
    (S : Fin 256 → EReal) (hS : ∀ x, k0_pay23 a b s (ix2 x r) = S x) :
    k0_pay25 a b s v (ix2 0 r) = v (ix2 0 r) + ∑ j : Fin 256, S j := by
  obtain rfl := funext hS
  unfold k0_pay25
  pointwise

/-- The queries' own block's sum, added on. -/
theorem pay25_at (x0 : Vec Ideal S1x256x128 .bf16) (x1 : Vec Ideal S1x4096x128 .bf16) (n : ℕ) (v : Vec Ideal S1x256 .f32) (r : Fin 256) :
    k0_pay25 (iota .tc S256x256 32 [0] iota_S256x256_d0_w32) (iota .tc S256x256 32 [1] iota_S256x256_d1_w32)
        (k0_pay20 x0 (keys x1 n)) v (ix2 0 r)
      = v (ix2 0 r) + ∑ j : Fin 256, left (raw x0 x1 r) (256 * n + r.val) (256 * n + j.val) :=
  pay25_of _ _ _ v r _ fun j => pay23_at x0 x1 n j r

/-- The weighted values of a masked block, added on. -/
theorem pay24_of (a b : IVec S256x256 32) (s t : FVec Ideal S256x256 .f32) (v : Vec Ideal S1x256 .f32)
    (w : Vec Ideal S128x256 .f32) (u : Vec Ideal S1x1x128x256 .bf16) (d : Fin 128) (r : Fin 256)
    (S T : Fin 256 → EReal) (B : Fin 256 → BitVec 1) (hS : ∀ x, k0_pay23 a b s (ix2 x r) = S x) (hT : ∀ x, t (ix2 x r) = T x)
    (hB : ∀ x, k0_pay22 a b (ix2 x r) = B x) :
    k0_pay24 a b k0_pay15 s t v w u (ix2 d r)
      = w (ix2 d r) + ∑ j : Fin 256, Scalar.select (B j) (u (ix4 0 0 d j) * Ideal.exp (T j
        + ((∑ c : Fin 256, (if j.val < c.val then (1 : EReal) else 0) * S c)
          + ∑ c : Fin 256, (if j.val < c.val then (1 : EReal) else 0) * (S c - S c))
        + v (ix2 0 r))) 0 := by
  obtain rfl := funext hS
  obtain rfl := funext hT
  obtain rfl := funext hB
  unfold k0_pay24
  pointwise
  simp only [pay15_at]

/-- The queries' own block's weighted values, added on. -/
theorem pay24_at (x0 : Vec Ideal S1x256x128 .bf16) (x1 : Vec Ideal S1x4096x128 .bf16) (n : ℕ) (v : Vec Ideal S1x256 .f32)
    (w : Vec Ideal S128x256 .f32) (u : Vec Ideal S1x1x128x256 .bf16) (d : Fin 128) (r : Fin 256) :
    k0_pay24 (iota .tc S256x256 32 [0] iota_S256x256_d0_w32) (iota .tc S256x256 32 [1] iota_S256x256_d1_w32) k0_pay15
        (k0_pay20 x0 (keys x1 n)) (k0_pay21 x0 (keys x1 n)) v w u (ix2 d r)
      = w (ix2 d r) + ∑ j : Fin 256, u (ix4 0 0 d j) * (if 256 * n + j.val < 256 * n + r.val then Ideal.exp (take (raw x0 x1 r (256 * n + j.val))
        + ((∑ c : Fin 256, (if j.val < c.val then (1 : EReal) else 0) * left (raw x0 x1 r) (256 * n + r.val) (256 * n + c.val))
          + ∑ c : Fin 256, (if j.val < c.val then (1 : EReal) else 0)
            * (left (raw x0 x1 r) (256 * n + r.val) (256 * n + c.val) - left (raw x0 x1 r) (256 * n + r.val) (256 * n + c.val)))
        + v (ix2 0 r)) else 0) := by
  refine (pay24_of _ _ _ _ v w u d r _ _ _ (fun j => pay23_at x0 x1 n j r) (fun j => pay21_at x0 x1 n j r) fun j => pay22_at j r).trans ?_
  refine congrArg (fun y : EReal => w (ix2 d r) + y) (Finset.sum_congr rfl fun j _ => ?_)
  by_cases h : j.val < r.val
  · rw [if_pos h, if_pos (by omega)]
    rfl
  · rw [if_neg h, if_neg (by omega), mul_zero]
    rfl

/-- The running state after the queries' own block and `n` earlier ones, for scores that are numbers: what all their keys
leave, and their values under their weights. -/
theorem carry_at (x0 : Vec Ideal S1x256x128 .bf16) (x1 : Vec Ideal S1x4096x128 .bf16) (x2 : Vec Ideal S1x16x128x256 .bf16)
    (b : ℕ) (hb : b < 16) (r : Fin 256) (hz : ∀ k, Num (raw x0 x1 r k)) (n : ℕ) (hn : n ≤ b) :
    (carry x0 x1 x2 b n).1 (ix2 0 r) = ∑ j ∈ Finset.Ico (256 * (b - n)) (256 * b + 256), left (raw x0 x1 r) (256 * b + r.val) j
    ∧ ∀ d : Fin 128, (carry x0 x1 x2 b n).2 (ix2 d r)
        = ∑ k ∈ Finset.Ico (256 * (b - n)) (256 * b + 256), value x2 d k * weight (raw x0 x1 r) (256 * b + r.val) k := by
  induction n with
  | zero =>
    have z16 : k0_pay16 (F := Ideal) (ix2 0 r) = (0 : EReal) := by unfold k0_pay16; pointwise
    constructor
    · show k0_pay25 _ _ _ _ (ix2 0 r) = _
      rw [pay25_at, z16, zero_add, block_all]
      rfl
    · intro d
      have z17 : k0_pay17 (F := Ideal) (ix2 d r) = (0 : EReal) := by unfold k0_pay17; pointwise
      show k0_pay24 _ _ _ _ _ _ _ _ (ix2 d r) = _
      rw [pay24_at, z17, zero_add]
      refine Eq.trans ?_ (block_all (fun k => value x2 d k * weight (raw x0 x1 r) (256 * b + r.val) k) b)
      refine Finset.sum_congr rfl fun j _ => ?_
      have e := weight_eq (q := 256 * b + r.val) hz b (256 * b + 256) j.val (by omega) le_rfl (by omega)
      rw [vals_at x2 b hb, z16, ← e, Finset.Ico_self, Finset.sum_empty]
  | succ n ih =>
    obtain ⟨i1, i2⟩ := ih (by omega)
    obtain ⟨p, rfl⟩ : ∃ p, b = p + 1 + n := ⟨b - 1 - n, by omega⟩
    have ep : p + 1 + n - 1 - n = p := by omega
    have e1 : p + 1 + n - n = p + 1 := by omega
    have e2 : p + 1 + n - (n + 1) = p := by omega
    have hl : ∀ j : Fin 256, stay (raw x0 x1 r (256 * p + j.val)) = left (raw x0 x1 r) (256 * (p + 1 + n) + r.val) (256 * p + j.val) :=
      fun j => (if_pos (by omega)).symm
    rw [e1, show 256 * (p + 1) = 256 * p + 256 from by omega] at i1 i2
    rw [e2]
    constructor
    · show k0_pay2 _ _ (ix2 0 r) = _
      rw [ep, pay2_at, i1, Finset.sum_congr rfl fun j _ => hl j, block_all, add_comm,
        Finset.sum_Ico_consecutive _ (by omega) (by omega)]
    · intro d
      show k0_pay1 (k0_pay9 (k0_pay14 x0) k0_pay15 (keys x1 (p + 1 + n - 1 - n)) (carry x0 x1 x2 (p + 1 + n) n).1
        (carry x0 x1 x2 (p + 1 + n) n).2 (vals x2 (p + 1 + n - 1 - n))) (ix2 d r) = _
      rw [ep, pay9_at, i2 d, i1, ← Finset.sum_Ico_consecutive _ (show 256 * p ≤ 256 * p + 256 by omega) (by omega), add_comm]
      refine congrArg (fun y : EReal => y + _) ?_
      refine Eq.trans ?_ (block_all (fun k => value x2 d k * weight (raw x0 x1 r) (256 * (p + 1 + n) + r.val) k) p)
      refine Finset.sum_congr rfl fun j _ => ?_
      have e := weight_eq (q := 256 * (p + 1 + n) + r.val) hz p (256 * (p + 1 + n) + 256) j.val (by omega) (by omega) (by omega)
      rw [if_pos (by omega)] at e
      rw [vals_at x2 p (by omega), ← e]
      simp only [hl]

/-- A point's output: the values under their weights. -/
theorem out_at (x0 : Vec Ideal S1x256x128 .bf16) (x1 : Vec Ideal S1x4096x128 .bf16) (x2 : Vec Ideal S1x16x128x256 .bf16)
    (b : ℕ) (hb : b < 16) (r : Fin 256) (hz : ∀ k, Num (raw x0 x1 r k)) (d : Fin 128) :
    k0_pay5 (carry x0 x1 x2 b b).2 (ix3 0 r d)
      = ∑ k ∈ Finset.range 4096, value x2 d k * weight (raw x0 x1 r) (256 * b + r.val) k := by
  have e := (carry_at x0 x1 x2 b hb r hz b le_rfl).2 d
  have f : k0_pay5 (carry x0 x1 x2 b b).2 (ix3 0 r d) = (carry x0 x1 x2 b b).2 (ix2 d r) := by
    generalize (carry x0 x1 x2 b b).2 = y
    unfold k0_pay5
    pointwise
  rw [f, e, Nat.sub_self, Nat.mul_zero, Finset.range_eq_Ico]
  refine Finset.sum_subset (Finset.Ico_subset_Ico_right (by omega)) fun k _ hk => ?_
  have : weight (raw x0 x1 r) (256 * b + r.val) k = 0 := if_neg (by rw [Finset.mem_Ico] at hk; omega)
  rw [this, mul_zero]

end Cert.SbIdeal.Hand
end
-- ==== Proof.SbRef.lean ====
module

public import proofs.«01_k».proof.Proof.Stick
public import proofs.«01_k».proof.Proof.Gen.SbRefIdeal.Read
public import Idealize.ShloMosaic.Lib.Pointwise
public import Idealize.ShloMosaic.Lib.ValueIdx

@[expose] public section

set_option maxRecDepth 16384

noncomputable section

namespace Cert.SbRefIdeal.Hand

open Cert.SbRefIdeal Cert.SbRefIdeal.Read Idealize.ShloMosaic Idealize.ShloMosaic.TcCoe
open Cert.Stick

/-- Query `q`'s score with key `k` in head `h` of batch `b`. -/
def raw (x0 x1 : Vec Ideal S8x4096x512 .bf16) (b : Fin 8) (h : Fin 4) (q : Fin 4096) (k : ℕ) : EReal :=
  ∑ l : Fin 128, x1 (ix3 b ⟨k % 4096, Nat.mod_lt _ (by omega)⟩ ⟨h.val * 128 + l.val, by omega⟩)
    * x0 (ix3 b q ⟨h.val * 128 + l.val, by omega⟩)

/-- Lane `d` of head `h`'s value at key `k`. -/
def value (x2 : Vec Ideal S8x16x512x256 .bf16) (b : Fin 8) (h : Fin 4) (d : Fin 128) (k : ℕ) : EReal :=
  x2 (ix4 b ⟨k % 4096 / 256, by omega⟩ ⟨h.val * 128 + d.val, by omega⟩ ⟨k % 256, Nat.mod_lt _ (by omega)⟩)

/-- A window's fold of additions from zero is the sum over the window's positions. -/
theorem window_sum {s t u : Shape} (window strides lo hi : Fin s.rank → ℕ) (x : s.Idx → EReal)
    (h : s.ReduceWindows window strides lo hi t) (hu : 0 < u.numel) (j : t.Idx) :
    Host.reduceWindow (fun a b : EReal => a + b) window strides lo hi x (fun _ : u.Idx => (0 : EReal)) h hu j
      = ∑ w : (⟨s.rank, window⟩ : Shape).Idx,
        if hin : ∀ a, lo a ≤ (j (a.cast h.1.symm)).val * strides a + (w a).val
            ∧ (j (a.cast h.1.symm)).val * strides a + (w a).val - lo a < s.size a then
          x (fun a => ⟨(j (a.cast h.1.symm)).val * strides a + (w a).val - lo a, (hin a).2⟩) else 0 := by
  rw [sum_idx_eq_foldl]
  unfold Host.reduceWindow
  refine congrArg (fun f => List.foldl f (0 : EReal) (List.finRange (⟨s.rank, window⟩ : Shape).numel)) (funext fun r => funext fun n => ?_)
  refine congrArg (r + ·) ?_
  dsimp only
  congr

/-- The host's window sum from zero is that fold. -/
theorem window_add {s t u : Shape} (window strides lo hi : Fin s.rank → ℕ) (x : FVec Ideal s .f32)
    (h : s.ReduceWindows window strides lo hi t) (hu : 0 < u.numel) (j : t.Idx) :
    Host.reduceWindowAdd (F := Ideal) (φ := .f32) window strides lo hi x (fun _ : u.Idx => (0 : EReal)) h hu j
      = Host.reduceWindow (fun a b : EReal => a + b) window strides lo hi x (fun _ : u.Idx => (0 : EReal)) h hu j := rfl

/-- A window along the last axis at its position `n`. -/
abbrev lane (n : Fin 4096) : (⟨4, ![1, 1, 1, 4096]⟩ : Shape).Idx := ix4 0 0 0 n

/-- Those are all its positions. -/
theorem lane_bij : Function.Bijective lane := by
  constructor
  · intro a b e
    exact congrFun e 3
  · intro w
    refine ⟨w 3, funext fun a => ?_⟩
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- A sum over the positions from `k` on, counted from `k`. -/
theorem sum_from (S : ℕ → EReal) (k : ℕ) :
    (∑ n : Fin 4096, if k + n.val < 4096 then S (k + n.val) else 0) = ∑ j ∈ Finset.Ico k 4096, S j := by
  rw [← Finset.sum_range (fun n : ℕ => if k + n < 4096 then S (k + n) else 0), ← Finset.sum_filter, Finset.sum_Ico_eq_sum_range]
  congr 1
  ext n
  simp only [Finset.mem_filter, Finset.mem_range]
  omega

/-- The reversed running sum along the last axis. -/
theorem running (y : S8x4x4096x4096.Idx → EReal) (S : ℕ → EReal) (b : Fin 8) (h : Fin 4) (q k : Fin 4096)
    (hS : ∀ j : Fin 4096, y (ix4 b h q j) = S j.val)
    (hw : S8x4x4096x4096.ReduceWindows (![1, 1, 1, 4096] : Fin 4 → Nat) ![1, 1, 1, 1] ![0, 0, 0, 0] ![0, 0, 0, 4095] S8x4x4096x4096)
    (hu : 0 < S_.numel) :
    Host.reduceWindow (fun a b : EReal => a + b) (s := S8x4x4096x4096) ![1, 1, 1, 4096] ![1, 1, 1, 1] ![0, 0, 0, 0] ![0, 0, 0, 4095] y
      (fun _ : S_.Idx => (0 : EReal)) hw hu (ix4 b h q k : S8x4x4096x4096.Idx) = ∑ j ∈ Finset.Ico k.val 4096, S j := by
  rw [window_sum, ← sum_from S k.val]
  refine (Fintype.sum_bijective lane lane_bij _ _ fun n => ?_).symm
  by_cases e : k.val + n.val < 4096
  · rw [if_pos e, dif_pos]
    · refine (hS ⟨k.val + n.val, e⟩).symm.trans (congrArg y (funext fun a => Fin.ext ?_))
      match a with
      | ⟨0, _⟩ => show b.val = b.val * 1 + 0 - 0; omega
      | ⟨1, _⟩ => show h.val = h.val * 1 + 0 - 0; omega
      | ⟨2, _⟩ => show q.val = q.val * 1 + 0 - 0; omega
      | ⟨3, _⟩ => show k.val + n.val = k.val * 1 + n.val - 0; omega
    · intro a
      match a with
      | ⟨0, _⟩ => show 0 ≤ b.val * 1 + 0 ∧ b.val * 1 + 0 - 0 < 8; omega
      | ⟨1, _⟩ => show 0 ≤ h.val * 1 + 0 ∧ h.val * 1 + 0 - 0 < 4; omega
      | ⟨2, _⟩ => show 0 ≤ q.val * 1 + 0 ∧ q.val * 1 + 0 - 0 < 4096; omega
      | ⟨3, _⟩ => show 0 ≤ k.val * 1 + n.val ∧ k.val * 1 + n.val - 0 < 4096; omega
  · rw [if_neg e, dif_neg]
    intro hin
    have := (hin 3).2
    change k.val * 1 + n.val - 0 < 4096 at this
    omega

/-- The mask: a key before the query. -/
theorem v12_at (q k : Fin 4096) : val_main_v12 (F := Ideal) (ix2 q k) = if k.val < q.val then 1#1 else 0#1 := by
  rw [← slt_at k.val q.val k.isLt q.isLt]
  unfold val_main_v12 val_main_v11 val_main_v10 val_main_v9 val_main_v8 val_main_v7
  pointwise

/-- The scores. -/
theorem v13_at (x0 x1 : Vec Ideal S8x4096x512 .bf16) (b : Fin 8) (h : Fin 4) (q k : Fin 4096) :
    val_main_v13 x0 x1 (ix4 b h q k) = raw x0 x1 b h q k.val := by
  unfold val_main_v13 val_main_v3 val_main_v2 val_main_v1 val_main_v0
  pointwise
  unfold raw
  simp only [Nat.mod_eq_of_lt k.isLt]
  exact Finset.sum_congr rfl fun l _ => mul_comm _ _

/-- A magnitude. -/
theorem magnitude (x : EReal) : FloatOps.absf (F := Ideal) (φ := .f32) x = max x (-x) := rfl

/-- The pattern of zero stands for zero. -/
theorem zero : Ideal.ofBits FTy.f32 0#32 = 0 := by simp [Ideal.ofBits, Ideal.ieee]

/-- Minus the softplus, as the host spells it: the branch for what is no number is never taken. -/
theorem softplus (x : EReal) :
    Scalar.select (Ideal.cmp .une (x - 0) (x - 0)) (x + 0) (max x 0 + Ideal.log1p (Ideal.exp (-(max (x - 0) (-(x - 0)))))) = max x 0 + soft x := by
  have e : Ideal.cmp .une (x - 0) (x - 0) = 0#1 := by simp [Ideal.cmp]
  rw [e, sub_zero]
  rfl

/-- What the keys leave of the stick, as logarithms. -/
theorem v15_at (x0 x1 : Vec Ideal S8x4096x512 .bf16) (b : Fin 8) (h : Fin 4) (q k : Fin 4096) (hz : Num (raw x0 x1 b h q k.val)) :
    val_main_v15 x0 x1 (ix4 b h q k) = stay (raw x0 x1 b h q k.val) := by
  rw [← stay_eq hz, ← softplus]
  unfold val_main_v15 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0 val_main_v14
  pointwise
  rw [v13_at]
  simp [magnitude]

/-- What they take. -/
theorem v19_at (x0 x1 : Vec Ideal S8x4096x512 .bf16) (b : Fin 8) (h : Fin 4) (q k : Fin 4096) (hz : Num (raw x0 x1 b h q k.val)) :
    val_main_v19 x0 x1 (ix4 b h q k) = take (raw x0 x1 b h q k.val) := by
  rw [← take_eq hz, ← softplus]
  unfold val_main_v19 val_main_call3_v1 val_main_call3_call0_v11 val_main_call3_call0_v10 val_main_call3_call0_v9 val_main_call3_call0_v8 val_main_call3_call0_v7 val_main_call3_call0_v6 val_main_call3_call0_v5 val_main_call3_call0_v4 val_main_call3_call0_v3 val_main_call3_call0_v2 val_main_call3_call0_v1 val_main_call3_call0_v0 val_main_call3_call0_cst val_main_call3_v0
  pointwise
  rw [v13_at]
  simp [magnitude]

/-- What they leave, nothing taken from the query on. -/
theorem v16_at (x0 x1 : Vec Ideal S8x4096x512 .bf16) (b : Fin 8) (h : Fin 4) (q k : Fin 4096) (hz : Num (raw x0 x1 b h q k.val)) :
    val_main_v16 x0 x1 (ix4 b h q k) = left (raw x0 x1 b h q) q.val k.val := by
  unfold val_main_v16 val_main_call1_v2 val_main_call1_v1 val_main_call1_v0 val_main_cst
  pointwise
  rw [v12_at, v15_at x0 x1 b h q k hz]
  unfold left
  by_cases e : k.val < q.val
  · rw [if_pos e, if_pos e]
    rfl
  · rw [if_neg e, if_neg e]
    exact zero

/-- The running sum's start. -/
theorem start : val_main_call2_v0 (F := Ideal) = fun _ => (0 : EReal) := by
  funext i
  unfold val_main_call2_v0 val_main_call2_cst
  pointwise

/-- The sum of what the keys from one on leave. -/
theorem v17_at (x0 x1 : Vec Ideal S8x4096x512 .bf16) (b : Fin 8) (h : Fin 4) (q k : Fin 4096) (hz : ∀ k, Num (raw x0 x1 b h q k)) :
    val_main_v17 x0 x1 (ix4 b h q k) = ∑ j ∈ Finset.Ico k.val 4096, left (raw x0 x1 b h q) q.val j := by
  have hS : ∀ j : Fin 4096, val_main_v16 x0 x1 (ix4 b h q j) = left (raw x0 x1 b h q) q.val j.val := fun j => v16_at x0 x1 b h q j (hz _)
  unfold val_main_v17
  rw [start]
  generalize val_main_v16 x0 x1 = y at hS ⊢
  exact (window_add _ _ _ _ y _ _ _).trans (running y _ b h q k hS _ _)

/-- The weights. -/
theorem v22_at (x0 x1 : Vec Ideal S8x4096x512 .bf16) (b : Fin 8) (h : Fin 4) (q k : Fin 4096) (hz : ∀ k, Num (raw x0 x1 b h q k)) :
    val_main_v22 x0 x1 (ix4 b h q k) = weight (raw x0 x1 b h q) q.val k.val := by
  have e17 := v17_at x0 x1 b h q k hz
  unfold val_main_v22 val_main_call4_v2 val_main_call4_v1 val_main_call4_v0 val_main_cst_0 val_main_v21 val_main_v20 val_main_v18
  generalize val_main_v17 x0 x1 = y at e17 ⊢
  pointwise
  rw [e17, v12_at, v19_at x0 x1 b h q k (hz _), v16_at x0 x1 b h q k (hz _), suffix_sub hz k.val 4096 q.isLt.le k.isLt]
  unfold weight
  by_cases e : k.val < q.val
  · rw [if_pos e, if_pos e]
    rfl
  · rw [if_neg e, if_neg e]
    exact zero

/-- The values by head. -/
theorem v6_at (x2 : Vec Ideal S8x16x512x256 .bf16) (b : Fin 8) (h : Fin 4) (d : Fin 128) (k : Fin 4096) :
    val_main_v6 x2 (ix4 b k h d) = value x2 b h d k.val := by
  unfold val_main_v6 val_main_v5 val_main_v4
  pointwise
  unfold value
  congr 1
  funext a
  apply Fin.ext
  match a with
  | ⟨0, _⟩ => rfl
  | ⟨1, _⟩ => show k.val / 256 = k.val % 4096 / 256; omega
  | ⟨2, _⟩ => rfl
  | ⟨3, _⟩ => rfl

/-- The reference's result: the values under their weights. -/
theorem out_at (x0 x1 : Vec Ideal S8x4096x512 .bf16) (x2 : Vec Ideal S8x16x512x256 .bf16) (b : Fin 8) (h : Fin 4) (q : Fin 4096) (d : Fin 128)
    (hz : ∀ k, Num (raw x0 x1 b h q k)) :
    val_main_v26 x0 x1 x2 (ix3 b q ⟨h.val * 128 + d.val, by omega⟩)
      = ∑ k ∈ Finset.range 4096, value x2 b h d k * weight (raw x0 x1 b h q) q.val k := by
  rw [Finset.sum_range]
  have e6 := v6_at x2 b h d
  have e22 := fun k => v22_at x0 x1 b h q k hz
  unfold val_main_v26 val_main_v25 val_main_v24 val_main_v23
  generalize val_main_v6 x2 = y at e6 ⊢
  generalize val_main_v22 x0 x1 = w at e22 ⊢
  pointwise
  refine Finset.sum_congr rfl fun k _ => ?_
  rw [← e6, ← e22]

end Cert.SbRefIdeal.Hand
end
-- ==== Proof.SbFinal.lean ====
module

public import proofs.«01_k».proof.Proof.SbValue
public import proofs.«01_k».proof.Proof.SbRef
public import proofs.«01_k».proof.Proof.MlaFinal
public import Idealize.ShloMosaic.Lib.Claim
public import Idealize.ShloMosaic.Lib.Pipeline.ValueKit
public import Idealize.ShloMosaic.Lib.StableHlo.ReadAt

@[expose] public section

set_option maxRecDepth 16384

noncomputable section

namespace Cert.SbIdeal.Hand

open Cert.SbIdeal Cert.SbIdeal.Gen Idealize.ShloMosaic Idealize.ShloMosaic.TcCoe Idealize.SL.Sem
open Idealize.ShloMosaic.Pipeline (Dat)

variable (m : (ℓ : Loc nD τ sig) → Buf (Elt Ideal) ℓ)

/-- Each window's block number at a point, and the point's third coordinate, decided over the grid. -/
theorem idx_rows : ∀ t : Fin cfg0.N, (win0_0.index t 0 = t.val / 64 ∧ win0_0.index t 1 = t.val % 16 ∧ win0_0.index t 2 = t.val / 16 % 4)
    ∧ (win0_1.index t 0 = t.val / 64 ∧ win0_1.index t 1 = 0 ∧ win0_1.index t 2 = t.val / 16 % 4)
    ∧ (win0_2.index t 0 = t.val / 64 ∧ win0_2.index t 1 = 0 ∧ win0_2.index t 2 = t.val / 16 % 4 ∧ win0_2.index t 3 = 0)
    ∧ (win0_3.index t 0 = t.val / 64 ∧ win0_3.index t 1 = t.val % 16 ∧ win0_3.index t 2 = t.val / 16 % 4)
    ∧ (grid0.coords t 2).val = t.val % 16 :=
  (by decide +kernel : ∀ t : Fin grid0.N, (win0_0.index t 0 = t.val / 64 ∧ win0_0.index t 1 = t.val % 16 ∧ win0_0.index t 2 = t.val / 16 % 4)
    ∧ (win0_1.index t 0 = t.val / 64 ∧ win0_1.index t 1 = 0 ∧ win0_1.index t 2 = t.val / 16 % 4)
    ∧ (win0_2.index t 0 = t.val / 64 ∧ win0_2.index t 1 = 0 ∧ win0_2.index t 2 = t.val / 16 % 4 ∧ win0_2.index t 3 = 0)
    ∧ (win0_3.index t 0 = t.val / 64 ∧ win0_3.index t 1 = t.val % 16 ∧ win0_3.index t 2 = t.val / 16 % 4)
    ∧ (grid0.coords t 2).val = t.val % 16)

/-- The grid has 512 points: 8 batches of 4 heads of 16 query blocks. -/
theorem tlt (t : Fin cfg0.N) : t.val < 512 := t.isLt

/-- A point's batch. -/
abbrev pb (t : Fin cfg0.N) : Fin 8 := ⟨t.val / 64, by have := tlt t; omega⟩
/-- A point's head. -/
abbrev ph (t : Fin cfg0.N) : Fin 4 := ⟨t.val / 16 % 4, by omega⟩
/-- The query that row `r` of a point's block stands for. -/
abbrev pq (t : Fin cfg0.N) (r : Fin 256) : Fin 4096 := ⟨t.val % 16 * 256 + r.val, by omega⟩

/-- The queries. -/
abbrev aQ (c : Dev nD) : Vec Ideal S8x4096x512 .bf16 := m ((c : Thread nD τ).loc main_arg0)
/-- The keys. -/
abbrev aK (c : Dev nD) : Vec Ideal S8x4096x512 .bf16 := m ((c : Thread nD τ).loc main_arg1)
/-- The values. -/
abbrev aV (c : Dev nD) : Vec Ideal S8x16x512x256 .bf16 := m ((c : Thread nD τ).loc main_arg2)

/-- The queries' block at a point. -/
theorem blk0 (c : Dev nD) (t : Fin cfg0.N) (r : Fin 256) (l : Fin 128) :
    (iblk m c 0 t : Vec Ideal S1x256x128 .bf16) (ix3 0 r l) = aQ m c (ix3 (pb t) (pq t r) ⟨(ph t).val * 128 + l.val, by omega⟩) := by
  obtain ⟨⟨h0, h1, h2⟩, -⟩ := idx_rows t
  unfold aQ
  rw [← V_main_arg0 m c]
  unfold iblk
  rw [View.read_apply]
  show V m c main_arg0 _ = V m c main_arg0 _
  congr 1
  funext a
  apply Fin.ext
  match a with
  | ⟨0, _⟩ => show win0_0.index t 0 * 1 + 1 * 0 = t.val / 64; rw [h0]; omega
  | ⟨1, _⟩ => show win0_0.index t 1 * 256 + 1 * r.val = t.val % 16 * 256 + r.val; rw [h1]; omega
  | ⟨2, _⟩ => show win0_0.index t 2 * 128 + 1 * l.val = t.val / 16 % 4 * 128 + l.val; rw [h2]; omega

/-- The keys' block at a point. -/
theorem blk1 (c : Dev nD) (t : Fin cfg0.N) (k : Fin 4096) (l : Fin 128) :
    (iblk m c 1 t : Vec Ideal S1x4096x128 .bf16) (ix3 0 k l) = aK m c (ix3 (pb t) k ⟨(ph t).val * 128 + l.val, by omega⟩) := by
  obtain ⟨-, ⟨h0, h1, h2⟩, -⟩ := idx_rows t
  unfold aK
  rw [← V_main_arg1 m c]
  unfold iblk
  rw [View.read_apply]
  show V m c main_arg1 _ = V m c main_arg1 _
  congr 1
  funext a
  apply Fin.ext
  match a with
  | ⟨0, _⟩ => show win0_1.index t 0 * 1 + 1 * 0 = t.val / 64; rw [h0]; omega
  | ⟨1, _⟩ => show win0_1.index t 1 * 4096 + 1 * k.val = k.val; rw [h1]; omega
  | ⟨2, _⟩ => show win0_1.index t 2 * 128 + 1 * l.val = t.val / 16 % 4 * 128 + l.val; rw [h2]; omega

/-- The values' block at a point. -/
theorem blk2 (c : Dev nD) (t : Fin cfg0.N) (n : Fin 16) (d : Fin 128) (j : Fin 256) :
    (iblk m c 2 t : Vec Ideal S1x16x128x256 .bf16) (ix4 0 n d j) = aV m c (ix4 (pb t) n ⟨(ph t).val * 128 + d.val, by omega⟩ j) := by
  obtain ⟨-, -, ⟨h0, h1, h2, h3⟩, -⟩ := idx_rows t
  unfold aV
  rw [← V_main_arg2 m c]
  unfold iblk
  rw [View.read_apply]
  show V m c main_arg2 _ = V m c main_arg2 _
  congr 1
  funext a
  apply Fin.ext
  match a with
  | ⟨0, _⟩ => show win0_2.index t 0 * 1 + 1 * 0 = t.val / 64; rw [h0]; omega
  | ⟨1, _⟩ => show win0_2.index t 1 * 16 + 1 * n.val = n.val; rw [h1]; omega
  | ⟨2, _⟩ => show win0_2.index t 2 * 128 + 1 * d.val = t.val / 16 % 4 * 128 + d.val; rw [h2]; omega
  | ⟨3, _⟩ => show win0_2.index t 3 * 256 + 1 * j.val = j.val; rw [h3]; omega

/-- Where the output's block lies in the result. -/
theorem emb3 (t : Fin cfg0.N) (r : Fin 256) (d : Fin 128) :
    ((cfg0.win 3).blk t).view.emb (ix3 0 r d) = (ix3 (pb t) (pq t r) ⟨(ph t).val * 128 + d.val, by omega⟩ : S8x4096x512.Idx) := by
  obtain ⟨-, -, -, ⟨h0, h1, h2⟩, -⟩ := idx_rows t
  funext a
  apply Fin.ext
  match a with
  | ⟨0, _⟩ => show win0_3.index t 0 * 1 + 1 * 0 = t.val / 64; rw [h0]; omega
  | ⟨1, _⟩ => show win0_3.index t 1 * 256 + 1 * r.val = t.val % 16 * 256 + r.val; rw [h1]; omega
  | ⟨2, _⟩ => show win0_3.index t 2 * 128 + 1 * d.val = t.val / 16 % 4 * 128 + d.val; rw [h2]; omega

/-- A point's scores are its batch's and head's. -/
theorem raw_blk (c : Dev nD) (t : Fin cfg0.N) (r : Fin 256) :
    raw (iblk m c 0 t) (iblk m c 1 t) r = Cert.SbRefIdeal.Hand.raw (aQ m c) (aK m c) (pb t) (ph t) (pq t r) := by
  funext k
  unfold raw Cert.SbRefIdeal.Hand.raw
  refine Finset.sum_congr rfl fun l _ => ?_
  rw [blk0, blk1]

/-- And its values. -/
theorem value_blk (c : Dev nD) (t : Fin cfg0.N) (d : Fin 128) :
    value (iblk m c 2 t) d = Cert.SbRefIdeal.Hand.value (aV m c) (pb t) (ph t) d := by
  funext k
  unfold value Cert.SbRefIdeal.Hand.value
  rw [blk2]

/-- An array of numbers: no infinity among its entries. -/
abbrev Numbers (x : Vec Ideal S8x4096x512 .bf16) : Prop := ∀ i, (x i : EReal) ≠ ⊤ ∧ (x i : EReal) ≠ ⊥

/-- Queries and keys that are numbers have numbers for scores. -/
theorem raw_real (x0 x1 : Vec Ideal S8x4096x512 .bf16) (h0 : Numbers x0) (h1 : Numbers x1) (b : Fin 8) (h : Fin 4) (q : Fin 4096) (k : ℕ) :
    Cert.SbRefIdeal.Hand.raw x0 x1 b h q k ≠ ⊤ ∧ Cert.SbRefIdeal.Hand.raw x0 x1 b h q k ≠ ⊥ :=
  Cert.MlaIdeal.Hand.sum_mul_real _ _ (fun _ => h1 _) (fun _ => h0 _)

/-- The reference's result. -/
abbrev refOut (c : Dev nD) : Vec Ideal S8x4096x512 .bf16 := Cert.SbRefIdeal.Read.val_main_v26 (F := Ideal) (aQ m c) (aK m c) (aV m c)

/-- What a point leaves in the output's block: the reference's result there. -/
theorem out_blk (c : Dev nD) (h0 : Numbers (aQ m c)) (h1 : Numbers (aK m c)) (t : Fin cfg0.N) (r : Fin 256) (d : Fin 128) :
    outsAt0 m c t (ix3 0 r d) = refOut m c (ix3 (pb t) (pq t r) ⟨(ph t).val * 128 + d.val, by omega⟩) := by
  obtain ⟨-, -, -, -, hi⟩ := idx_rows t
  have hz : ∀ k, Cert.Stick.Num (Cert.SbRefIdeal.Hand.raw (aQ m c) (aK m c) (pb t) (ph t) (pq t r) k) := raw_real _ _ h0 h1 _ _ _
  rw [outs_eq, hi, out_at _ _ _ _ (by omega) r (by rw [raw_blk]; exact hz), raw_blk, value_blk,
    show 256 * (t.val % 16) + r.val = (pq t r).val from by show _ = t.val % 16 * 256 + r.val; omega]
  exact (Cert.SbRefIdeal.Hand.out_at (aQ m c) (aK m c) (aV m c) (pb t) (ph t) (pq t r) d hz).symm

/-- The call's result is the reference's, for queries and keys that are numbers. -/
theorem final (c : Dev nD) (h0 : Numbers (aQ m c)) (h1 : Numbers (aK m c)) : (dats m 0 c).arrAt 3 cfg0.N = refOut m c := by
  refine (dats m 0 c).arrAt_eq_of_covers 3 _ (by decide +kernel) fun t _ y => ?_
  idx_vars y
  obtain rfl : y0 = 0 := Subsingleton.elim _ _
  refine Eq.trans ?_ (congrArg (refOut m c) (emb3 t y1 y2).symm)
  show (dats m 0 c).after 3 t (ix3 0 y1 y2 : S1x256x128.Idx) = _
  rw [after0_3]
  exact out_blk m c h0 h1 t y1 y2

end Cert.SbIdeal.Hand

end
-- ==== Proof.SbClaim.lean ====
module

public import proofs.«01_k».proof.Defs
public import proofs.«01_k».proof.Proof.MlaClaim
public import proofs.«01_k».proof.Proof.SbFinal
public import proofs.«01_k».proof.Proof.Gen.Sb.Frame
public import proofs.«01_k».proof.Proof.Gen.SbRefIdeal.Run
public import proofs.«01_k».proof.Proof.Gen.Pre_finite_sb
public import Idealize.ShloMosaic.Lib.Quiescent

@[expose] public section

set_option maxRecDepth 16384

noncomputable section

namespace Cert.SbIdeal.Hand

open Idealize.ShloMosaic Idealize.ShloMosaic.TcCoe Idealize.SL.Sem

/-- The stick-breaking attention's kernel leaves its arguments as launched. -/
theorem quiet : quiescent_Sb := fun m ρ _ => Cert.Sb.Gen.frame m ρ

/-- So does its idealization. -/
theorem quietIdeal : quiescent_SbIdeal := fun m ρ _ => Cert.SbIdeal.Gen.frame m ρ

/-- So it does for finite queries and keys. -/
theorem quietIdealFinite : quiescent_SbIdeal_pre_finite_sb := fun m ρ _ => Cert.SbIdeal.Gen.frame m ρ

/-- So does the reference. -/
theorem quietRef : quiescent_SbRefIdeal := fun m ρ _ =>
  (θ_run Cert.SbRefIdeal.defs _ _).mono (fun r h => ⟨fun c => (h c).2, sem_eq_zero_of_no_sems (by decide) r.2⟩)
    (Cert.SbRefIdeal.Value.run (F := Ideal) m ρ)

/-- So it does for finite queries and keys. -/
theorem quietRefFinite : quiescent_SbRefIdeal_pre_finite_sb := fun m ρ _ => quietRef m ρ trivial

/-- What the precondition says of a device's queries and keys. -/
theorem numbers (m : (ℓ : Loc nD τ sig) → Buf (Elt Ideal) ℓ) (h : Pre_SbIdeal_finite_sb m) (c : Dev nD) :
    Numbers (aQ m c) ∧ Numbers (aK m c) := by
  obtain ⟨h0, h1⟩ := h c
  exact ⟨fun i => Cert.MlaIdeal.Hand.number_of _ (congrFun h0 i), fun i => Cert.MlaIdeal.Hand.number_of _ (congrFun h1 i)⟩

/-- Read over the extended reals, for finite queries and keys the stick-breaking attention's kernel and its reference end with equal results. -/
theorem equal : algebraic_SbIdeal_SbRefIdeal_pre_finite_sb := by
  intro m ρ m' ρ' hp hag
  refine ⟨fun c => _, (θ_run _ _ _).mono (fun _ h c => ⟨(h c).1.trans (final m c (numbers m hp c).1 (numbers m hp c).2), (h c).2⟩)
      (Cert.SbIdeal.Value.run_blocks m ρ),
    (θ_run _ _ _).mono (fun _ h c => ⟨(h c).1.trans ?_, (h c).2⟩) (Cert.SbRefIdeal.Value.run (F := Ideal) m' ρ')⟩
  obtain ⟨e0, e1, e2⟩ := hag c
  rw [Cert.SbRefIdeal.Read.val_main_v26_eq, e0, e1, e2]

end Cert.SbIdeal.Hand

end
-- ==== Proof.AdaValue.lean ====
module

public import proofs.«01_k».proof.Proof.Gen.AdaIdeal.Value
public import proofs.«01_k».proof.Proof.Gen.AdaRefIdeal.Read
public import Idealize.ShloMosaic.Lib.Pointwise
public import Idealize.ShloMosaic.Lib.ValueIdx
public import Idealize.ShloMosaic.Lib.Claim
public import Idealize.ShloMosaic.Lib.Pipeline.ValueKit
public import Idealize.ShloMosaic.Lib.StableHlo.ReadAt

@[expose] public section

set_option maxRecDepth 16384

noncomputable section

namespace Cert.AdaIdeal.Hand

open Cert.AdaIdeal Cert.AdaIdeal.Gen Idealize.ShloMosaic Idealize.ShloMosaic.TcCoe Idealize.SL.Sem
open Idealize.ShloMosaic.Pipeline (Dat)

variable (m : (ℓ : Loc nD τ sig) → Buf (Elt Ideal) ℓ)

/-- The stored block at a batch entry and a lane: the gated conditioning times the weights, plus the bias. -/
theorem pay_apply (v0 : Vec Ideal S8x2048 .f32) (v4 : Vec Ideal S1x2048x1024 .f32) (v8 : Vec Ideal S1x1x1024 .f32)
    (b : Fin 8) (j : Fin 1024) :
    k0_pay1 v0 v4 v8 (ix3 0 b j)
      = (∑ k : Fin 2048, v0 (ix2 b k) * Ideal.logistic (v0 (ix2 b k)) * v4 (ix3 0 k j)) + v8 (ix3 0 0 j) := by
  unfold k0_pay1
  pointwise

/-- Each window's block number at a point, decided over the grid. -/
theorem idx_rows : ∀ t : Fin cfg0.N, win0_0.index t 0 = 0 ∧ win0_0.index t 1 = 0
    ∧ win0_1.index t 0 = t.val / 18 ∧ win0_1.index t 1 = 0 ∧ win0_1.index t 2 = t.val % 18
    ∧ win0_2.index t 0 = t.val / 18 ∧ win0_2.index t 1 = 0 ∧ win0_2.index t 2 = t.val % 18
    ∧ win0_3.index t 0 = t.val / 18 ∧ win0_3.index t 1 = 0 ∧ win0_3.index t 2 = t.val % 18 :=
  (by decide +kernel : ∀ t : Fin grid0.N, win0_0.index t 0 = 0 ∧ win0_0.index t 1 = 0
    ∧ win0_1.index t 0 = t.val / 18 ∧ win0_1.index t 1 = 0 ∧ win0_1.index t 2 = t.val % 18
    ∧ win0_2.index t 0 = t.val / 18 ∧ win0_2.index t 1 = 0 ∧ win0_2.index t 2 = t.val % 18
    ∧ win0_3.index t 0 = t.val / 18 ∧ win0_3.index t 1 = 0 ∧ win0_3.index t 2 = t.val % 18)

/-- The grid has 36 points: eighteen lane blocks of each of two layers. -/
theorem tlt (t : Fin cfg0.N) : t.val < 36 := t.isLt

/-- A point's layer. -/
abbrev lay (t : Fin cfg0.N) : Fin 2 := ⟨t.val / 18, by have := tlt t; omega⟩
/-- The lane of the whole array that lane `j` of a point's blocks stands for. -/
abbrev lane (t : Fin cfg0.N) (j : Fin 1024) : Fin 18432 := ⟨t.val % 18 * 1024 + j.val, by omega⟩

/-- The conditioning's block at a point is the whole array. -/
theorem blk0 (c : Dev nD) (t : Fin cfg0.N) (b : Fin 8) (k : Fin 2048) :
    (iblk m c 0 t : Vec Ideal S8x2048 .f32) (ix2 b k) = m ((c : Thread nD τ).loc main_arg0) (ix2 b k) := by
  obtain ⟨h0, h1, -⟩ := idx_rows t
  have hV : V m c main_arg0 = m ((c : Thread nD τ).loc main_arg0) := by
    unfold V
    after_reads_at
  rw [← hV]
  unfold iblk
  rw [View.read_apply]
  show V m c main_arg0 _ = V m c main_arg0 _
  congr 1
  funext a
  apply Fin.ext
  match a with
  | ⟨0, _⟩ => show win0_0.index t 0 * 8 + 1 * b.val = b.val; rw [h0]; omega
  | ⟨1, _⟩ => show win0_0.index t 1 * 2048 + 1 * k.val = k.val; rw [h1]; omega

/-- The weights' block at a point: its layer's rows and its block of lanes. -/
theorem blk1 (c : Dev nD) (t : Fin cfg0.N) (k : Fin 2048) (j : Fin 1024) :
    (iblk m c 1 t : Vec Ideal S1x2048x1024 .f32) (ix3 0 k j)
      = m ((c : Thread nD τ).loc main_arg1) (ix3 (lay t) k (lane t j)) := by
  obtain ⟨-, -, h0, h1, h2, -⟩ := idx_rows t
  have hV : V m c main_arg1 = m ((c : Thread nD τ).loc main_arg1) := by
    unfold V
    after_reads_at
  rw [← hV]
  unfold iblk
  rw [View.read_apply]
  show V m c main_arg1 _ = V m c main_arg1 _
  congr 1
  funext a
  apply Fin.ext
  match a with
  | ⟨0, _⟩ => show win0_1.index t 0 * 1 + 1 * 0 = t.val / 18; rw [h0]; omega
  | ⟨1, _⟩ => show win0_1.index t 1 * 2048 + 1 * k.val = k.val; rw [h1]; omega
  | ⟨2, _⟩ => show win0_1.index t 2 * 1024 + 1 * j.val = t.val % 18 * 1024 + j.val; rw [h2]; omega

/-- The bias's block at a point: its layer's and its block of lanes. -/
theorem blk2 (c : Dev nD) (t : Fin cfg0.N) (j : Fin 1024) :
    (iblk m c 2 t : Vec Ideal S1x1x1024 .f32) (ix3 0 0 j) = m ((c : Thread nD τ).loc main_arg2) (ix2 (lay t) (lane t j)) := by
  obtain ⟨-, -, -, -, -, h0, h1, h2, -⟩ := idx_rows t
  have hV : V m c main_v0 (ix3 (lay t) 0 (lane t j)) = m ((c : Thread nD τ).loc main_arg2) (ix2 (lay t) (lane t j)) := by
    unfold V
    after_reads_at
  rw [← hV]
  unfold iblk
  rw [View.read_apply]
  show V m c main_v0 _ = V m c main_v0 _
  congr 1
  funext a
  apply Fin.ext
  match a with
  | ⟨0, _⟩ => show win0_2.index t 0 * 1 + 1 * 0 = t.val / 18; rw [h0]; omega
  | ⟨1, _⟩ => show win0_2.index t 1 * 1 + 1 * 0 = 0; rw [h1]
  | ⟨2, _⟩ => show win0_2.index t 2 * 1024 + 1 * j.val = t.val % 18 * 1024 + j.val; rw [h2]; omega

/-- The three zero offsets, as a constant function. -/
theorem hz3 : (![0, 0, 0] : Fin 3 → Nat) = fun _ => 0 := funext fun a => by fin_cases a <;> rfl

/-- What a point leaves in the output's block, from the input blocks. -/
theorem out_apply (x0 : Vec Ideal S8x2048 .f32) (x1 : Vec Ideal S1x2048x1024 .f32) (x2 : Vec Ideal S1x1x1024 .f32)
    (b : Fin 8) (j : Fin 1024) : out0_3 x0 x1 x2 (ix3 0 b j)
      = (∑ k : Fin 2048, x0 (ix2 b k) * Ideal.logistic (x0 (ix2 b k)) * x1 (ix3 0 k j)) + x2 (ix3 0 0 j) := by
  unfold out0_3
  rw [View.canon_unit_zero hz3, pay_apply]
  pointwise

open Cert.AdaRefIdeal.Read in
/-- The reference's result at a layer, a batch entry and a lane. -/
theorem ref_apply (x0 : Vec Ideal Cert.AdaRefIdeal.S8x2048 .f32) (x1 : Vec Ideal Cert.AdaRefIdeal.S2x2048x18432 .f32)
    (x2 : Vec Ideal Cert.AdaRefIdeal.S2x18432 .f32) (l : Fin 2) (b : Fin 8) (n : Fin 18432) :
    val_main_v5 (F := Ideal) x0 x1 x2 (ix3 l b n)
      = (∑ k : Fin 2048, x0 (ix2 b k) * Ideal.logistic (x0 (ix2 b k)) * x1 (ix3 l k n)) + x2 (ix2 l n) := by
  unfold val_main_v5 val_main_v4 val_main_v3 val_main_v2 val_main_v1 val_main_v0 val_main_call0_v5 val_main_call0_v4
    val_main_call0_v3 val_main_call0_v2 val_main_call0_v1 val_main_call0_v0 val_main_call0_cst val_main_call0_cst_0
  pointwise
  exact congrArg (· + x2 (ix2 l n)) (Finset.sum_congr rfl fun k _ => mul_comm _ _)

/-- The kernel's result array is the reference's result of the same arguments. -/
theorem final (c : Dev nD) : (dats m 0 c).arrAt 3 cfg0.N = Cert.AdaRefIdeal.Read.val_main_v5 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  idx_vars y
  obtain ⟨-, -, -, -, -, -, -, -, h0, h1, h2⟩ := idx_rows t
  have he : ((cfg0.win 3).blk t).view.emb (ix3 y0 y1 y2) = (ix3 (lay t) y1 (lane t y2) : S2x8x18432.Idx) := by
    funext a
    apply Fin.ext
    match a with
    | ⟨0, _⟩ => show win0_3.index t 0 * 1 + 1 * y0.val = t.val / 18; rw [h0]; omega
    | ⟨1, _⟩ => show win0_3.index t 1 * 8 + 1 * y1.val = y1.val; rw [h1]; omega
    | ⟨2, _⟩ => show win0_3.index t 2 * 1024 + 1 * y2.val = t.val % 18 * 1024 + y2.val; rw [h2]; omega
  refine Eq.trans ?_ (congrArg (Cert.AdaRefIdeal.Read.val_main_v5 (F := Ideal) (m ((c : Thread nD τ).loc main_arg0))
    (m ((c : Thread nD τ).loc main_arg1)) (m ((c : Thread nD τ).loc main_arg2))) he.symm)
  rw [ref_apply]
  show (dats m 0 c).after 3 t (ix3 y0 y1 y2 : S1x8x1024.Idx) = _
  rw [show y0 = 0 from Subsingleton.elim _ _, after0_3, out_apply]
  simp only [blk0, blk1, blk2]

end Cert.AdaIdeal.Hand

end
-- ==== Proof.AdaClaim.lean ====
module

public import proofs.«01_k».proof.Defs
public import proofs.«01_k».proof.Proof.AdaValue
public import proofs.«01_k».proof.Proof.Gen.Ada.Frame
public import Idealize.ShloMosaic.Lib.Quiescent

@[expose] public section

set_option maxRecDepth 16384

noncomputable section

namespace Cert.AdaIdeal.Hand

open Idealize.ShloMosaic Idealize.ShloMosaic.TcCoe Idealize.SL.Sem

/-- The modulation's kernel leaves its arguments as launched. -/
theorem quiet : quiescent_Ada := fun m ρ _ => Cert.Ada.Gen.frame m ρ

/-- So does its idealization. -/
theorem quietIdeal : quiescent_AdaIdeal := fun m ρ _ => Cert.AdaIdeal.Gen.frame m ρ

/-- So does the reference. -/
theorem quietRef : quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- Read over the extended reals, the modulation's kernel and its reference end with equal results. -/
theorem equal : algebraic_AdaIdeal_AdaRefIdeal := by
  intro m ρ m' ρ' _ hag
  refine ⟨fun c => _, (θ_run _ _ _).mono (fun _ h c => ⟨(h c).1.trans (final m c), (h c).2⟩) (Cert.AdaIdeal.Value.run_blocks m ρ),
    (θ_run _ _ _).mono (fun _ h c => ⟨(h c).1.trans ?_, (h c).2⟩) (Cert.AdaRefIdeal.Value.run (F := Ideal) m' ρ')⟩
  obtain ⟨e0, e1, e2⟩ := hag c
  rw [Cert.AdaRefIdeal.Read.val_main_v5_eq, e0, e1, e2]

end Cert.AdaIdeal.Hand

end
-- ==== Proof.lean ====
module

public import proofs.«01_k».proof.Defs
public import proofs.«01_k».proof.Proof.Gen.Mla
public import proofs.«01_k».proof.Proof.Gen.MlaIdeal
public import proofs.«01_k».proof.Proof.Gen.MlaRefIdeal
public import proofs.«01_k».proof.Proof.MlaClaim
public import proofs.«01_k».proof.Proof.Gen.Pre_finite_mla
public import proofs.«01_k».proof.Proof.Gen.Ffn
public import proofs.«01_k».proof.Proof.Gen.FfnIdeal
public import proofs.«01_k».proof.Proof.Gen.FfnRefIdeal
public import proofs.«01_k».proof.Proof.FfnClaim
public import proofs.«01_k».proof.Proof.Gen.FfnB
public import proofs.«01_k».proof.Proof.Gen.FfnBIdeal
public import proofs.«01_k».proof.Proof.Gen.FfnBRefIdeal
public import proofs.«01_k».proof.Proof.FfnBClaim
public import proofs.«01_k».proof.Proof.Gen.Proj
public import proofs.«01_k».proof.Proof.Gen.ProjIdeal
public import proofs.«01_k».proof.Proof.Gen.ProjRefIdeal
public import proofs.«01_k».proof.Proof.ProjClaim
public import proofs.«01_k».proof.Proof.Gen.Out
public import proofs.«01_k».proof.Proof.Gen.OutIdeal
public import proofs.«01_k».proof.Proof.Gen.OutRefIdeal
public import proofs.«01_k».proof.Proof.OutClaim
public import proofs.«01_k».proof.Proof.Gen.Sb
public import proofs.«01_k».proof.Proof.Gen.SbIdeal
public import proofs.«01_k».proof.Proof.Gen.SbRefIdeal
public import proofs.«01_k».proof.Proof.SbClaim
public import proofs.«01_k».proof.Proof.Gen.Pre_finite_sb
public import proofs.«01_k».proof.Proof.Gen.Ada
public import proofs.«01_k».proof.Proof.Gen.AdaIdeal
public import proofs.«01_k».proof.Proof.Gen.AdaRefIdeal
public import proofs.«01_k».proof.Proof.AdaClaim

@[expose] public section

noncomputable section

namespace Cert.Proof

open Idealize.ShloMosaic Idealize.SL.Sem

/-- Every claim: each call's kernel, its idealization and its reference end with their arguments as launched, and each call's
kernel and reference end with equal results over the extended reals, the two attentions' for finite queries and keys. -/
theorem claim : Cert.Claim := ⟨Cert.Mla.Gen.facts, Cert.MlaIdeal.Gen.facts, Cert.MlaRefIdeal.Gen.facts, Cert.Ffn.Gen.facts, Cert.FfnIdeal.Gen.facts, Cert.FfnRefIdeal.Gen.facts, Cert.FfnB.Gen.facts, Cert.FfnBIdeal.Gen.facts, Cert.FfnBRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.Sb.Gen.facts, Cert.SbIdeal.Gen.facts, Cert.SbRefIdeal.Gen.facts, Cert.Ada.Gen.facts, Cert.AdaIdeal.Gen.facts, Cert.AdaRefIdeal.Gen.facts, Cert.Pre_finite_mla.Gen.facts, Cert.Pre_finite_sb.Gen.facts,
  Cert.MlaIdeal.Hand.quiet, Cert.MlaIdeal.Hand.quietIdeal, Cert.MlaIdeal.Hand.quietIdealFinite, Cert.MlaIdeal.Hand.quietRef, Cert.MlaIdeal.Hand.quietRefFinite, Cert.FfnIdeal.Hand.quiet, Cert.FfnIdeal.Hand.quietIdeal, Cert.FfnIdeal.Hand.quietRef, Cert.FfnBIdeal.Hand.quiet, Cert.FfnBIdeal.Hand.quietIdeal, Cert.FfnBIdeal.Hand.quietRef, Cert.ProjIdeal.Hand.quiet, Cert.ProjIdeal.Hand.quietIdeal, Cert.ProjIdeal.Hand.quietRef, Cert.OutIdeal.Hand.quiet, Cert.OutIdeal.Hand.quietIdeal, Cert.OutIdeal.Hand.quietRef, Cert.SbIdeal.Hand.quiet, Cert.SbIdeal.Hand.quietIdeal, Cert.SbIdeal.Hand.quietIdealFinite, Cert.SbIdeal.Hand.quietRef, Cert.SbIdeal.Hand.quietRefFinite, Cert.AdaIdeal.Hand.quiet, Cert.AdaIdeal.Hand.quietIdeal, Cert.AdaIdeal.Hand.quietRef,
  trivial, Cert.MlaIdeal.Hand.equal, trivial, Cert.FfnIdeal.Hand.equal, trivial, Cert.FfnBIdeal.Hand.equal, trivial, Cert.ProjIdeal.Hand.equal, trivial, Cert.OutIdeal.Hand.equal, trivial, Cert.SbIdeal.Hand.equal, trivial, Cert.AdaIdeal.Hand.equal⟩

end Cert.Proof

end
